-- ==== Defs.lean ====
def Pre_Kernel [hPre_dims_in_range : Cert.Pre_dims_in_range.Facts] (m : (ℓ : Loc Cert.Kernel.nD Cert.Kernel.τ Cert.Kernel.sig) → Buf (Elt Bits) ℓ) : Prop :=
  ∀ c : Dev Cert.Kernel.nD,
    (Cert.Pre_dims_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_dims_in_range : Cert.Pre_dims_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_dims_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dims_in_range [hPre_dims_in_range : Cert.Pre_dims_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dims_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_dims_in_range : Cert.Pre_dims_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_dims_in_range : Cert.Pre_dims_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_dims_in_range [hReferenceIdeal : Cert.ReferenceIdeal.Facts] [hPre_dims_in_range : Cert.Pre_dims_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dims_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dims_in_range : Cert.Pre_dims_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_dims_in_range : Cert.Pre_dims_in_range.Facts),
    quiescent_Kernel (hKernel := hKernel) (hPre_dims_in_range := hPre_dims_in_range)
    ∧ quiescent_KernelIdeal (hKernelIdeal := hKernelIdeal) (hPre_dims_in_range := hPre_dims_in_range)
    ∧ quiescent_ReferenceIdeal (hReferenceIdeal := hReferenceIdeal)
    ∧ quiescent_ReferenceIdeal_pre_dims_in_range (hReferenceIdeal := hReferenceIdeal) (hPre_dims_in_range := hPre_dims_in_range)
    ∧ preserves_Kernel_KernelIdeal
    ∧ algebraic_KernelIdeal_ReferenceIdeal (hKernelIdeal := hKernelIdeal) (hReferenceIdeal := hReferenceIdeal) (hPre_dims_in_range := hPre_dims_in_range)
-- ==== Pre_dims_in_range.lean ====
abbrev S16384x2080 : Shape := ⟨2, ![16384, 2080]⟩
abbrev S1x2080 : Shape := ⟨2, ![1, 2080]⟩
abbrev S_ : Shape := ⟨0, ![]⟩

class Facts : Prop where
  bcast_S_S1x2080 : S_.BroadcastsInDim S1x2080 (![] : Fin 0 → Fin S1x2080.rank)
  reducesTo_S1x2080_S_d0_1 : S1x2080.ReducesTo [0, 1] S_
  h_S_ : 0 < S_.numel

variable [Facts]

def fn {F : FTy → Type} [FloatOps F] (main_arg0 : FVec F S16384x2080 .f32) (main_arg1 : IVec S1x2080 32) (main_arg2 : IVec S1x2080 32) : IVec S_ 1 :=
  let main_c : IVec S_ 32 := constantI S_ 32 4294967295#32
  let main_v0 : IVec S1x2080 32 := broadcastInDim S1x2080 ![] bcast_S_S1x2080 main_c
  let main_v1 : IVec S1x2080 1 := cmpi .sge main_arg1 main_v0
  let main_c_0 : IVec S_ 1 := constantI S_ 1 1#1
  let main_v2 : IVec S_ 1 := (fun x v => Host.reduce IntOp.andi x v reducesTo_S1x2080_S_d0_1 h_S_) main_v1 main_c_0
  let main_c_1 : IVec S_ 32 := constantI S_ 32 2080#32
  let main_v3 : IVec S1x2080 32 := broadcastInDim S1x2080 ![] bcast_S_S1x2080 main_c_1
  let main_v4 : IVec S1x2080 1 := cmpi .slt main_arg1 main_v3
  let main_c_2 : IVec S_ 1 := constantI S_ 1 1#1
  let main_v5 : IVec S_ 1 := (fun x v => Host.reduce IntOp.andi x v reducesTo_S1x2080_S_d0_1 h_S_) main_v4 main_c_2
  let main_v6 : IVec S_ 1 := andi main_v2 main_v5
  let main_c_3 : IVec S_ 32 := constantI S_ 32 4294967295#32
  let main_v7 : IVec S1x2080 32 := broadcastInDim S1x2080 ![] bcast_S_S1x2080 main_c_3
  let main_v8 : IVec S1x2080 1 := cmpi .sge main_arg2 main_v7
  let main_c_4 : IVec S_ 1 := constantI S_ 1 1#1
  let main_v9 : IVec S_ 1 := (fun x v => Host.reduce IntOp.andi x v reducesTo_S1x2080_S_d0_1 h_S_) main_v8 main_c_4
  let main_v10 : IVec S_ 1 := andi main_v6 main_v9
  let main_c_5 : IVec S_ 32 := constantI S_ 32 2080#32
  let main_v11 : IVec S1x2080 32 := broadcastInDim S1x2080 ![] bcast_S_S1x2080 main_c_5
  let main_v12 : IVec S1x2080 1 := cmpi .slt main_arg2 main_v11
  let main_c_6 : IVec S_ 1 := constantI S_ 1 1#1
  let main_v13 : IVec S_ 1 := (fun x v => Host.reduce IntOp.andi x v reducesTo_S1x2080_S_d0_1 h_S_) main_v12 main_c_6
  let main_v14 : IVec S_ 1 := andi main_v10 main_v13
  main_v14
-- ==== Kernel.lean ====
abbrev S16384x2080 : Shape := ⟨2, ![16384, 2080]⟩
abbrev S1x2080 : Shape := ⟨2, ![1, 2080]⟩
abbrev S16x2080 : Shape := ⟨2, ![16, 2080]⟩
abbrev S_ : Shape := ⟨0, ![]⟩
abbrev S16 : Shape := ⟨1, ![16]⟩
abbrev S1x16 : Shape := ⟨2, ![1, 16]⟩

abbrev nBuf : Table → Nat
  | .hbm => 4
  | .local .scVector .vmem => 4
  | _ => 0

abbrev bufTy : (tb : Table) → Fin (nBuf tb) → BufTy
  | .hbm, ⟨0, _⟩ => ⟨S16384x2080, .f32⟩
  | .hbm, ⟨1, _⟩ => ⟨S1x2080, .i32⟩
  | .hbm, ⟨2, _⟩ => ⟨S1x2080, .i32⟩
  | .hbm, ⟨3, _⟩ => ⟨S16384x2080, .f32⟩
  | .local .scVector .vmem, ⟨0, _⟩ => ⟨S16x2080, .f32⟩
  | .local .scVector .vmem, ⟨1, _⟩ => ⟨S16x2080, .f32⟩
  | .local .scVector .vmem, ⟨2, _⟩ => ⟨S1x2080, .i32⟩
  | .local .scVector .vmem, ⟨3, _⟩ => ⟨S1x2080, .i32⟩
  | _, _ => ⟨S16384x2080, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg10 : BitVec 32 := Scf.iv c0_i32_0 c1_i32 k0_t1
  let c16_i32 : BitVec 32 := 16#32
  let v4 : BitVec 32 := Scalar.muli arg10 c16_i32
  let v5 : BitVec 32 := Scalar.addi v2 v4
  let c0_i32_6_r2 : BitVec 32 := 0#32
  ![v5.toNat, 0]
@[reducible] def k0_t2_loop : Scf.Loop 32 :=
  let c0_i32_3 : BitVec 32 := 0#32
  let c130_i32 : BitVec 32 := 130#32
  let v6 : BitVec 32 := Scalar.addi c0_i32_3 c130_i32
  let c1_i32_4 : BitVec 32 := 1#32
  ⟨c0_i32_3, v6, c1_i32_4⟩
def k0_off2 (k0_t2 : Fin k0_t2_loop.trips) : Fin 2 → Nat :=
  let c0_i32_7 : BitVec 32 := 0#32
  let v8 : Index := Scalar.indexCast c0_i32_7
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v9 : Index := Scalar.indexCast v7
  ![0, v9.toNat]
def k0_off3 (k0_t2 : Fin k0_t2_loop.trips) : Fin 2 → Nat :=
  let c0_i32_14 : BitVec 32 := 0#32
  let v23 : Index := Scalar.indexCast c0_i32_14
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v24 : Index := Scalar.indexCast v7
  ![0, v24.toNat]

def k0_chk1 (v15 : IVec S16 32) (v17 : IVec S16 32) (v22 : IVec S16 32) : Prop :=
  (∀ a x, ((![v22, v15] : Fin 2 → IVec S16 32) a x).toNat < S16x2080.size a) ∧
  (∀ a x, ((![v22, v17] : Fin 2 → IVec S16 32) a x).toNat < S16x2080.size a)
theorem k0_idx1_inb : ∀ (v15 : IVec S16 32) (v17 : IVec S16 32) (v22 : IVec S16 32) (k0_hw1 : k0_chk1 v15 v17 v22), ∀ a x, ((![v22, v15] : Fin 2 → IVec S16 32) a x).toNat < S16x2080.size a := fun v15 v17 v22 k0_hw1 => k0_hw1.1
theorem k0_idx2_inb : ∀ (v15 : IVec S16 32) (v17 : IVec S16 32) (v22 : IVec S16 32) (k0_hw1 : k0_chk1 v15 v17 v22), ∀ a x, ((![v22, v17] : Fin 2 → IVec S16 32) a x).toNat < S16x2080.size a := fun v15 v17 v22 k0_hw1 => k0_hw1.2
def k0_off4 (k0_t2 : Fin k0_t2_loop.trips) : Fin 2 → Nat :=
  let c0_i32_16 : BitVec 32 := 0#32
  let v34 : Index := Scalar.indexCast c0_i32_16
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v35 : Index := Scalar.indexCast v7
  ![0, v35.toNat]
def k0_off5 (k0_t2 : Fin k0_t2_loop.trips) : Fin 2 → Nat :=
  let c1_i32_18 : BitVec 32 := 1#32
  let v38 : Index := Scalar.indexCast c1_i32_18
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v39 : Index := Scalar.indexCast v7
  ![1, v39.toNat]

def k0_chk2 (v15 : IVec S16 32) (v17 : IVec S16 32) (v37 : IVec S16 32) : Prop :=
  (∀ a x, ((![v37, v15] : Fin 2 → IVec S16 32) a x).toNat < S16x2080.size a) ∧
  (∀ a x, ((![v37, v17] : Fin 2 → IVec S16 32) a x).toNat < S16x2080.size a)
theorem k0_idx3_inb : ∀ (v15 : IVec S16 32) (v17 : IVec S16 32) (v37 : IVec S16 32) (k0_hw2 : k0_chk2 v15 v17 v37), ∀ a x, ((![v37, v15] : Fin 2 → IVec S16 32) a x).toNat < S16x2080.size a := fun v15 v17 v37 k0_hw2 => k0_hw2.1
theorem k0_idx4_inb : ∀ (v15 : IVec S16 32) (v17 : IVec S16 32) (v37 : IVec S16 32) (k0_hw2 : k0_chk2 v15 v17 v37), ∀ a x, ((![v37, v17] : Fin 2 → IVec S16 32) a x).toNat < S16x2080.size a := fun v15 v17 v37 k0_hw2 => k0_hw2.2
def k0_off6 (k0_t2 : Fin k0_t2_loop.trips) : Fin 2 → Nat :=
  let c1_i32_21 : BitVec 32 := 1#32
  let v49 : Index := Scalar.indexCast c1_i32_21
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v50 : Index := Scalar.indexCast v7
  ![1, v50.toNat]
def k0_off7 (k0_t2 : Fin k0_t2_loop.trips) : Fin 2 → Nat :=
  let c2_i32_23 : BitVec 32 := 2#32
  let v53 : Index := Scalar.indexCast c2_i32_23
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v54 : Index := Scalar.indexCast v7
  ![2, v54.toNat]

def k0_chk3 (v15 : IVec S16 32) (v17 : IVec S16 32) (v52 : IVec S16 32) : Prop :=
  (∀ a x, ((![v52, v15] : Fin 2 → IVec S16 32) a x).toNat < S16x2080.size a) ∧
  (∀ a x, ((![v52, v17] : Fin 2 → IVec S16 32) a x).toNat < S16x2080.size a)
theorem k0_idx5_inb : ∀ (v15 : IVec S16 32) (v17 : IVec S16 32) (v52 : IVec S16 32) (k0_hw3 : k0_chk3 v15 v17 v52), ∀ a x, ((![v52, v15] : Fin 2 → IVec S16 32) a x).toNat < S16x2080.size a := fun v15 v17 v52 k0_hw3 => k0_hw3.1
theorem k0_idx6_inb : ∀ (v15 : IVec S16 32) (v17 : IVec S16 32) (v52 : IVec S16 32) (k0_hw3 : k0_chk3 v15 v17 v52), ∀ a x, ((![v52, v17] : Fin 2 → IVec S16 32) a x).toNat < S16x2080.size a := fun v15 v17 v52 k0_hw3 => k0_hw3.2
def k0_off8 (k0_t2 : Fin k0_t2_loop.trips) : Fin 2 → Nat :=
  let c2_i32_26 : BitVec 32 := 2#32
  let v64 : Index := Scalar.indexCast c2_i32_26
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v65 : Index := Scalar.indexCast v7
  ![2, v65.toNat]
def k0_off9 (k0_t2 : Fin k0_t2_loop.trips) : Fin 2 → Nat :=
  let c3_i32_27 : BitVec 32 := 3#32
  let v68 : Index := Scalar.indexCast c3_i32_27
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v69 : Index := Scalar.indexCast v7
  ![3, v69.toNat]

def k0_chk4 (v15 : IVec S16 32) (v17 : IVec S16 32) (v67 : IVec S16 32) : Prop :=
  (∀ a x, ((![v67, v15] : Fin 2 → IVec S16 32) a x).toNat < S16x2080.size a) ∧
  (∀ a x, ((![v67, v17] : Fin 2 → IVec S16 32) a x).toNat < S16x2080.size a)
theorem k0_idx7_inb : ∀ (v15 : IVec S16 32) (v17 : IVec S16 32) (v67 : IVec S16 32) (k0_hw4 : k0_chk4 v15 v17 v67), ∀ a x, ((![v67, v15] : Fin 2 → IVec S16 32) a x).toNat < S16x2080.size a := fun v15 v17 v67 k0_hw4 => k0_hw4.1
theorem k0_idx8_inb : ∀ (v15 : IVec S16 32) (v17 : IVec S16 32) (v67 : IVec S16 32) (k0_hw4 : k0_chk4 v15 v17 v67), ∀ a x, ((![v67, v17] : Fin 2 → IVec S16 32) a x).toNat < S16x2080.size a := fun v15 v17 v67 k0_hw4 => k0_hw4.2
def k0_off10 (k0_t2 : Fin k0_t2_loop.trips) : Fin 2 → Nat :=
  let c3_i32_30 : BitVec 32 := 3#32
  let v79 : Index := Scalar.indexCast c3_i32_30
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v80 : Index := Scalar.indexCast v7
  ![3, v80.toNat]
def k0_off11 (k0_t2 : Fin k0_t2_loop.trips) : Fin 2 → Nat :=
  let c4_i32_31 : BitVec 32 := 4#32
  let v83 : Index := Scalar.indexCast c4_i32_31
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v84 : Index := Scalar.indexCast v7
  ![4, v84.toNat]

def k0_chk5 (v15 : IVec S16 32) (v17 : IVec S16 32) (v82 : IVec S16 32) : Prop :=
  (∀ a x, ((![v82, v15] : Fin 2 → IVec S16 32) a x).toNat < S16x2080.size a) ∧
  (∀ a x, ((![v82, v17] : Fin 2 → IVec S16 32) a x).toNat < S16x2080.size a)
theorem k0_idx9_inb : ∀ (v15 : IVec S16 32) (v17 : IVec S16 32) (v82 : IVec S16 32) (k0_hw5 : k0_chk5 v15 v17 v82), ∀ a x, ((![v82, v15] : Fin 2 → IVec S16 32) a x).toNat < S16x2080.size a := fun v15 v17 v82 k0_hw5 => k0_hw5.1
theorem k0_idx10_inb : ∀ (v15 : IVec S16 32) (v17 : IVec S16 32) (v82 : IVec S16 32) (k0_hw5 : k0_chk5 v15 v17 v82), ∀ a x, ((![v82, v17] : Fin 2 → IVec S16 32) a x).toNat < S16x2080.size a := fun v15 v17 v82 k0_hw5 => k0_hw5.2
def k0_off12 (k0_t2 : Fin k0_t2_loop.trips) : Fin 2 → Nat :=
  let c4_i32_34 : BitVec 32 := 4#32
  let v94 : Index := Scalar.indexCast c4_i32_34
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v95 : Index := Scalar.indexCast v7
  ![4, v95.toNat]
def k0_off13 (k0_t2 : Fin k0_t2_loop.trips) : Fin 2 → Nat :=
  let c5_i32_35 : BitVec 32 := 5#32
  let v98 : Index := Scalar.indexCast c5_i32_35
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v99 : Index := Scalar.indexCast v7
  ![5, v99.toNat]

def k0_chk6 (v15 : IVec S16 32) (v17 : IVec S16 32) (v97 : IVec S16 32) : Prop :=
  (∀ a x, ((![v97, v15] : Fin 2 → IVec S16 32) a x).toNat < S16x2080.size a) ∧
  (∀ a x, ((![v97, v17] : Fin 2 → IVec S16 32) a x).toNat < S16x2080.size a)
theorem k0_idx11_inb : ∀ (v15 : IVec S16 32) (v17 : IVec S16 32) (v97 : IVec S16 32) (k0_hw6 : k0_chk6 v15 v17 v97), ∀ a x, ((![v97, v15] : Fin 2 → IVec S16 32) a x).toNat < S16x2080.size a := fun v15 v17 v97 k0_hw6 => k0_hw6.1
theorem k0_idx12_inb : ∀ (v15 : IVec S16 32) (v17 : IVec S16 32) (v97 : IVec S16 32) (k0_hw6 : k0_chk6 v15 v17 v97), ∀ a x, ((![v97, v17] : Fin 2 → IVec S16 32) a x).toNat < S16x2080.size a := fun v15 v17 v97 k0_hw6 => k0_hw6.2
def k0_off14 (k0_t2 : Fin k0_t2_loop.trips) : Fin 2 → Nat :=
  let c5_i32_38 : BitVec 32 := 5#32
  let v109 : Index := Scalar.indexCast c5_i32_38
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v110 : Index := Scalar.indexCast v7
  ![5, v110.toNat]
def k0_off15 (k0_t2 : Fin k0_t2_loop.trips) : Fin 2 → Nat :=
  let c6_i32_39 : BitVec 32 := 6#32
  let v113 : Index := Scalar.indexCast c6_i32_39
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v114 : Index := Scalar.indexCast v7
  ![6, v114.toNat]

def k0_chk7 (v15 : IVec S16 32) (v17 : IVec S16 32) (v112 : IVec S16 32) : Prop :=
  (∀ a x, ((![v112, v15] : Fin 2 → IVec S16 32) a x).toNat < S16x2080.size a) ∧
  (∀ a x, ((![v112, v17] : Fin 2 → IVec S16 32) a x).toNat < S16x2080.size a)
theorem k0_idx13_inb : ∀ (v15 : IVec S16 32) (v17 : IVec S16 32) (v112 : IVec S16 32) (k0_hw7 : k0_chk7 v15 v17 v112), ∀ a x, ((![v112, v15] : Fin 2 → IVec S16 32) a x).toNat < S16x2080.size a := fun v15 v17 v112 k0_hw7 => k0_hw7.1
theorem k0_idx14_inb : ∀ (v15 : IVec S16 32) (v17 : IVec S16 32) (v112 : IVec S16 32) (k0_hw7 : k0_chk7 v15 v17 v112), ∀ a x, ((![v112, v17] : Fin 2 → IVec S16 32) a x).toNat < S16x2080.size a := fun v15 v17 v112 k0_hw7 => k0_hw7.2
def k0_off16 (k0_t2 : Fin k0_t2_loop.trips) : Fin 2 → Nat :=
  let c6_i32_42 : BitVec 32 := 6#32
  let v124 : Index := Scalar.indexCast c6_i32_42
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v125 : Index := Scalar.indexCast v7
  ![6, v125.toNat]
def k0_off17 (k0_t2 : Fin k0_t2_loop.trips) : Fin 2 → Nat :=
  let c7_i32_43 : BitVec 32 := 7#32
  let v128 : Index := Scalar.indexCast c7_i32_43
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v129 : Index := Scalar.indexCast v7
  ![7, v129.toNat]

def k0_chk8 (v15 : IVec S16 32) (v17 : IVec S16 32) (v127 : IVec S16 32) : Prop :=
  (∀ a x, ((![v127, v15] : Fin 2 → IVec S16 32) a x).toNat < S16x2080.size a) ∧
  (∀ a x, ((![v127, v17] : Fin 2 → IVec S16 32) a x).toNat < S16x2080.size a)
theorem k0_idx15_inb : ∀ (v15 : IVec S16 32) (v17 : IVec S16 32) (v127 : IVec S16 32) (k0_hw8 : k0_chk8 v15 v17 v127), ∀ a x, ((![v127, v15] : Fin 2 → IVec S16 32) a x).toNat < S16x2080.size a := fun v15 v17 v127 k0_hw8 => k0_hw8.1
theorem k0_idx16_inb : ∀ (v15 : IVec S16 32) (v17 : IVec S16 32) (v127 : IVec S16 32) (k0_hw8 : k0_chk8 v15 v17 v127), ∀ a x, ((![v127, v17] : Fin 2 → IVec S16 32) a x).toNat < S16x2080.size a := fun v15 v17 v127 k0_hw8 => k0_hw8.2
def k0_off18 (k0_t2 : Fin k0_t2_loop.trips) : Fin 2 → Nat :=
  let c7_i32_46 : BitVec 32 := 7#32
  let v139 : Index := Scalar.indexCast c7_i32_46
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v140 : Index := Scalar.indexCast v7
  ![7, v140.toNat]
def k0_off19 (k0_t2 : Fin k0_t2_loop.trips) : Fin 2 → Nat :=
  let c8_i32_47 : BitVec 32 := 8#32
  let v143 : Index := Scalar.indexCast c8_i32_47
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v144 : Index := Scalar.indexCast v7
  ![8, v144.toNat]

def k0_chk9 (v15 : IVec S16 32) (v17 : IVec S16 32) (v142 : IVec S16 32) : Prop :=
  (∀ a x, ((![v142, v15] : Fin 2 → IVec S16 32) a x).toNat < S16x2080.size a) ∧
  (∀ a x, ((![v142, v17] : Fin 2 → IVec S16 32) a x).toNat < S16x2080.size a)
theorem k0_idx17_inb : ∀ (v15 : IVec S16 32) (v17 : IVec S16 32) (v142 : IVec S16 32) (k0_hw9 : k0_chk9 v15 v17 v142), ∀ a x, ((![v142, v15] : Fin 2 → IVec S16 32) a x).toNat < S16x2080.size a := fun v15 v17 v142 k0_hw9 => k0_hw9.1
theorem k0_idx18_inb : ∀ (v15 : IVec S16 32) (v17 : IVec S16 32) (v142 : IVec S16 32) (k0_hw9 : k0_chk9 v15 v17 v142), ∀ a x, ((![v142, v17] : Fin 2 → IVec S16 32) a x).toNat < S16x2080.size a := fun v15 v17 v142 k0_hw9 => k0_hw9.2
def k0_off20 (k0_t2 : Fin k0_t2_loop.trips) : Fin 2 → Nat :=
  let c8_i32_50 : BitVec 32 := 8#32
  let v154 : Index := Scalar.indexCast c8_i32_50
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v155 : Index := Scalar.indexCast v7
  ![8, v155.toNat]
def k0_off21 (k0_t2 : Fin k0_t2_loop.trips) : Fin 2 → Nat :=
  let c9_i32_51 : BitVec 32 := 9#32
  let v158 : Index := Scalar.indexCast c9_i32_51
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v159 : Index := Scalar.indexCast v7
  ![9, v159.toNat]

def k0_chk10 (v15 : IVec S16 32) (v17 : IVec S16 32) (v157 : IVec S16 32) : Prop :=
  (∀ a x, ((![v157, v15] : Fin 2 → IVec S16 32) a x).toNat < S16x2080.size a) ∧
  (∀ a x, ((![v157, v17] : Fin 2 → IVec S16 32) a x).toNat < S16x2080.size a)
theorem k0_idx19_inb : ∀ (v15 : IVec S16 32) (v17 : IVec S16 32) (v157 : IVec S16 32) (k0_hw10 : k0_chk10 v15 v17 v157), ∀ a x, ((![v157, v15] : Fin 2 → IVec S16 32) a x).toNat < S16x2080.size a := fun v15 v17 v157 k0_hw10 => k0_hw10.1
theorem k0_idx20_inb : ∀ (v15 : IVec S16 32) (v17 : IVec S16 32) (v157 : IVec S16 32) (k0_hw10 : k0_chk10 v15 v17 v157), ∀ a x, ((![v157, v17] : Fin 2 → IVec S16 32) a x).toNat < S16x2080.size a := fun v15 v17 v157 k0_hw10 => k0_hw10.2
def k0_off22 (k0_t2 : Fin k0_t2_loop.trips) : Fin 2 → Nat :=
  let c9_i32_54 : BitVec 32 := 9#32
  let v169 : Index := Scalar.indexCast c9_i32_54
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v170 : Index := Scalar.indexCast v7
  ![9, v170.toNat]
def k0_off23 (k0_t2 : Fin k0_t2_loop.trips) : Fin 2 → Nat :=
  let c10_i32_55 : BitVec 32 := 10#32
  let v173 : Index := Scalar.indexCast c10_i32_55
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v174 : Index := Scalar.indexCast v7
  ![10, v174.toNat]

def k0_chk11 (v15 : IVec S16 32) (v17 : IVec S16 32) (v172 : IVec S16 32) : Prop :=
  (∀ a x, ((![v172, v15] : Fin 2 → IVec S16 32) a x).toNat < S16x2080.size a) ∧
  (∀ a x, ((![v172, v17] : Fin 2 → IVec S16 32) a x).toNat < S16x2080.size a)
theorem k0_idx21_inb : ∀ (v15 : IVec S16 32) (v17 : IVec S16 32) (v172 : IVec S16 32) (k0_hw11 : k0_chk11 v15 v17 v172), ∀ a x, ((![v172, v15] : Fin 2 → IVec S16 32) a x).toNat < S16x2080.size a := fun v15 v17 v172 k0_hw11 => k0_hw11.1
theorem k0_idx22_inb : ∀ (v15 : IVec S16 32) (v17 : IVec S16 32) (v172 : IVec S16 32) (k0_hw11 : k0_chk11 v15 v17 v172), ∀ a x, ((![v172, v17] : Fin 2 → IVec S16 32) a x).toNat < S16x2080.size a := fun v15 v17 v172 k0_hw11 => k0_hw11.2
def k0_off24 (k0_t2 : Fin k0_t2_loop.trips) : Fin 2 → Nat :=
  let c10_i32_58 : BitVec 32 := 10#32
  let v184 : Index := Scalar.indexCast c10_i32_58
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v185 : Index := Scalar.indexCast v7
  ![10, v185.toNat]
def k0_off25 (k0_t2 : Fin k0_t2_loop.trips) : Fin 2 → Nat :=
  let c11_i32_59 : BitVec 32 := 11#32
  let v188 : Index := Scalar.indexCast c11_i32_59
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v189 : Index := Scalar.indexCast v7
  ![11, v189.toNat]

def k0_chk12 (v15 : IVec S16 32) (v17 : IVec S16 32) (v187 : IVec S16 32) : Prop :=
  (∀ a x, ((![v187, v15] : Fin 2 → IVec S16 32) a x).toNat < S16x2080.size a) ∧
  (∀ a x, ((![v187, v17] : Fin 2 → IVec S16 32) a x).toNat < S16x2080.size a)
theorem k0_idx23_inb : ∀ (v15 : IVec S16 32) (v17 : IVec S16 32) (v187 : IVec S16 32) (k0_hw12 : k0_chk12 v15 v17 v187), ∀ a x, ((![v187, v15] : Fin 2 → IVec S16 32) a x).toNat < S16x2080.size a := fun v15 v17 v187 k0_hw12 => k0_hw12.1
theorem k0_idx24_inb : ∀ (v15 : IVec S16 32) (v17 : IVec S16 32) (v187 : IVec S16 32) (k0_hw12 : k0_chk12 v15 v17 v187), ∀ a x, ((![v187, v17] : Fin 2 → IVec S16 32) a x).toNat < S16x2080.size a := fun v15 v17 v187 k0_hw12 => k0_hw12.2
def k0_off26 (k0_t2 : Fin k0_t2_loop.trips) : Fin 2 → Nat :=
  let c11_i32_62 : BitVec 32 := 11#32
  let v199 : Index := Scalar.indexCast c11_i32_62
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v200 : Index := Scalar.indexCast v7
  ![11, v200.toNat]
def k0_off27 (k0_t2 : Fin k0_t2_loop.trips) : Fin 2 → Nat :=
  let c12_i32_63 : BitVec 32 := 12#32
  let v203 : Index := Scalar.indexCast c12_i32_63
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v204 : Index := Scalar.indexCast v7
  ![12, v204.toNat]

def k0_chk13 (v15 : IVec S16 32) (v17 : IVec S16 32) (v202 : IVec S16 32) : Prop :=
  (∀ a x, ((![v202, v15] : Fin 2 → IVec S16 32) a x).toNat < S16x2080.size a) ∧
  (∀ a x, ((![v202, v17] : Fin 2 → IVec S16 32) a x).toNat < S16x2080.size a)
theorem k0_idx25_inb : ∀ (v15 : IVec S16 32) (v17 : IVec S16 32) (v202 : IVec S16 32) (k0_hw13 : k0_chk13 v15 v17 v202), ∀ a x, ((![v202, v15] : Fin 2 → IVec S16 32) a x).toNat < S16x2080.size a := fun v15 v17 v202 k0_hw13 => k0_hw13.1
theorem k0_idx26_inb : ∀ (v15 : IVec S16 32) (v17 : IVec S16 32) (v202 : IVec S16 32) (k0_hw13 : k0_chk13 v15 v17 v202), ∀ a x, ((![v202, v17] : Fin 2 → IVec S16 32) a x).toNat < S16x2080.size a := fun v15 v17 v202 k0_hw13 => k0_hw13.2
def k0_off28 (k0_t2 : Fin k0_t2_loop.trips) : Fin 2 → Nat :=
  let c12_i32_66 : BitVec 32 := 12#32
  let v214 : Index := Scalar.indexCast c12_i32_66
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v215 : Index := Scalar.indexCast v7
  ![12, v215.toNat]
def k0_off29 (k0_t2 : Fin k0_t2_loop.trips) : Fin 2 → Nat :=
  let c13_i32_67 : BitVec 32 := 13#32
  let v218 : Index := Scalar.indexCast c13_i32_67
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v219 : Index := Scalar.indexCast v7
  ![13, v219.toNat]

def k0_chk14 (v15 : IVec S16 32) (v17 : IVec S16 32) (v217 : IVec S16 32) : Prop :=
  (∀ a x, ((![v217, v15] : Fin 2 → IVec S16 32) a x).toNat < S16x2080.size a) ∧
  (∀ a x, ((![v217, v17] : Fin 2 → IVec S16 32) a x).toNat < S16x2080.size a)
theorem k0_idx27_inb : ∀ (v15 : IVec S16 32) (v17 : IVec S16 32) (v217 : IVec S16 32) (k0_hw14 : k0_chk14 v15 v17 v217), ∀ a x, ((![v217, v15] : Fin 2 → IVec S16 32) a x).toNat < S16x2080.size a := fun v15 v17 v217 k0_hw14 => k0_hw14.1
theorem k0_idx28_inb : ∀ (v15 : IVec S16 32) (v17 : IVec S16 32) (v217 : IVec S16 32) (k0_hw14 : k0_chk14 v15 v17 v217), ∀ a x, ((![v217, v17] : Fin 2 → IVec S16 32) a x).toNat < S16x2080.size a := fun v15 v17 v217 k0_hw14 => k0_hw14.2
def k0_off30 (k0_t2 : Fin k0_t2_loop.trips) : Fin 2 → Nat :=
  let c13_i32_70 : BitVec 32 := 13#32
  let v229 : Index := Scalar.indexCast c13_i32_70
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v230 : Index := Scalar.indexCast v7
  ![13, v230.toNat]
def k0_off31 (k0_t2 : Fin k0_t2_loop.trips) : Fin 2 → Nat :=
  let c14_i32_71 : BitVec 32 := 14#32
  let v233 : Index := Scalar.indexCast c14_i32_71
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v234 : Index := Scalar.indexCast v7
  ![14, v234.toNat]

def k0_chk15 (v15 : IVec S16 32) (v17 : IVec S16 32) (v232 : IVec S16 32) : Prop :=
  (∀ a x, ((![v232, v15] : Fin 2 → IVec S16 32) a x).toNat < S16x2080.size a) ∧
  (∀ a x, ((![v232, v17] : Fin 2 → IVec S16 32) a x).toNat < S16x2080.size a)
theorem k0_idx29_inb : ∀ (v15 : IVec S16 32) (v17 : IVec S16 32) (v232 : IVec S16 32) (k0_hw15 : k0_chk15 v15 v17 v232), ∀ a x, ((![v232, v15] : Fin 2 → IVec S16 32) a x).toNat < S16x2080.size a := fun v15 v17 v232 k0_hw15 => k0_hw15.1
theorem k0_idx30_inb : ∀ (v15 : IVec S16 32) (v17 : IVec S16 32) (v232 : IVec S16 32) (k0_hw15 : k0_chk15 v15 v17 v232), ∀ a x, ((![v232, v17] : Fin 2 → IVec S16 32) a x).toNat < S16x2080.size a := fun v15 v17 v232 k0_hw15 => k0_hw15.2
def k0_off32 (k0_t2 : Fin k0_t2_loop.trips) : Fin 2 → Nat :=
  let c14_i32_74 : BitVec 32 := 14#32
  let v244 : Index := Scalar.indexCast c14_i32_74
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v245 : Index := Scalar.indexCast v7
  ![14, v245.toNat]
def k0_off33 (k0_t2 : Fin k0_t2_loop.trips) : Fin 2 → Nat :=
  let c15_i32_75 : BitVec 32 := 15#32
  let v248 : Index := Scalar.indexCast c15_i32_75
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v249 : Index := Scalar.indexCast v7
  ![15, v249.toNat]

def k0_chk16 (v15 : IVec S16 32) (v17 : IVec S16 32) (v247 : IVec S16 32) : Prop :=
  (∀ a x, ((![v247, v15] : Fin 2 → IVec S16 32) a x).toNat < S16x2080.size a) ∧
  (∀ a x, ((![v247, v17] : Fin 2 → IVec S16 32) a x).toNat < S16x2080.size a)
theorem k0_idx31_inb : ∀ (v15 : IVec S16 32) (v17 : IVec S16 32) (v247 : IVec S16 32) (k0_hw16 : k0_chk16 v15 v17 v247), ∀ a x, ((![v247, v15] : Fin 2 → IVec S16 32) a x).toNat < S16x2080.size a := fun v15 v17 v247 k0_hw16 => k0_hw16.1
theorem k0_idx32_inb : ∀ (v15 : IVec S16 32) (v17 : IVec S16 32) (v247 : IVec S16 32) (k0_hw16 : k0_chk16 v15 v17 v247), ∀ a x, ((![v247, v17] : Fin 2 → IVec S16 32) a x).toNat < S16x2080.size a := fun v15 v17 v247 k0_hw16 => k0_hw16.2
def k0_off34 (k0_t2 : Fin k0_t2_loop.trips) : Fin 2 → Nat :=
  let c15_i32_78 : BitVec 32 := 15#32
  let v259 : Index := Scalar.indexCast c15_i32_78
  let c0_i32_3 : BitVec 32 := 0#32
  let c1_i32_4 : BitVec 32 := 1#32
  let arg11 : BitVec 32 := Scf.iv c0_i32_3 c1_i32_4 k0_t2
  let c16_i32_6 : BitVec 32 := 16#32
  let v7 : BitVec 32 := Scalar.muli arg11 c16_i32_6
  let v260 : Index := Scalar.indexCast v7
  ![15, v260.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2080 : Shape := ⟨2, ![16384, 2080]⟩
abbrev S1x2080 : Shape := ⟨2, ![1, 2080]⟩
abbrev S_ : Shape := ⟨0, ![]⟩
abbrev S2080 : Shape := ⟨1, ![2080]⟩
abbrev S2080x1 : Shape := ⟨2, ![2080, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x2080, .f32⟩
  | .hbm, ⟨1, _⟩ => ⟨S1x2080, .i32⟩
  | .hbm, ⟨2, _⟩ => ⟨S1x2080, .i32⟩
  | .hbm, ⟨3, _⟩ => ⟨S_, .f32⟩
  | .hbm, ⟨4, _⟩ => ⟨S16384x2080, .f32⟩
  | .hbm, ⟨5, _⟩ => ⟨S_, .f32⟩
  | .hbm, ⟨6, _⟩ => ⟨S16384x2080, .f32⟩
  | .hbm, ⟨7, _⟩ => ⟨S_, .i32⟩
  | .hbm, ⟨8, _⟩ => ⟨S1x2080, .i32⟩
  | .hbm, ⟨9, _⟩ => ⟨S1x2080, .i1⟩
  | .hbm, ⟨10, _⟩ => ⟨S2080, .i32⟩
  | .hbm, ⟨11, _⟩ => ⟨S_, .i32⟩
  | .hbm, ⟨12, _⟩ => ⟨S2080, .i32⟩
  | .hbm, ⟨13, _⟩ => ⟨S2080, .i1⟩
  | .hbm, ⟨14, _⟩ => ⟨S_, .i32⟩
  | .hbm, ⟨15, _⟩ => ⟨S2080, .i32⟩
  | .hbm, ⟨16, _⟩ => ⟨S2080, .i32⟩
  | .hbm, ⟨17, _⟩ => ⟨S2080, .i32⟩
  | .hbm, ⟨18, _⟩ => ⟨S2080x1, .i32⟩
  | .hbm, ⟨19, _⟩ => ⟨S16384x2080, .f32⟩
  | .hbm, ⟨20, _⟩ => ⟨S16384x2080, .i1⟩
  | .hbm, ⟨21, _⟩ => ⟨S16384x2080, .f32⟩
  | .hbm, ⟨22, _⟩ => ⟨S_, .i32⟩
  | .hbm, ⟨23, _⟩ => ⟨S1x2080, .i32⟩
  | .hbm, ⟨24, _⟩ => ⟨S1x2080, .i1⟩
  | .hbm, ⟨25, _⟩ => ⟨S2080, .i32⟩
  | .hbm, ⟨26, _⟩ => ⟨S_, .i32⟩
  | .hbm, ⟨27, _⟩ => ⟨S2080, .i32⟩
  | .hbm, ⟨28, _⟩ => ⟨S2080, .i1⟩
  | .hbm, ⟨29, _⟩ => ⟨S_, .i32⟩
  | .hbm, ⟨30, _⟩ => ⟨S2080, .i32⟩
  | .hbm, ⟨31, _⟩ => ⟨S2080, .i32⟩
  | .hbm, ⟨32, _⟩ => ⟨S2080, .i32⟩
  | .hbm, ⟨33, _⟩ => ⟨S2080x1, .i32⟩
  | .hbm, ⟨34, _⟩ => ⟨S16384x2080, .f32⟩
  | .hbm, ⟨35, _⟩ => ⟨S16384x2080, .i1⟩
  | .hbm, ⟨36, _⟩ => ⟨S16384x2080, .f32⟩
  | .hbm, ⟨37, _⟩ => ⟨S16384x2080, .f32⟩
  | .hbm, ⟨38, _⟩ => ⟨S16384x2080, .f32⟩
  | _, _ => ⟨S16384x2080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.Ideal.Setup.lean ====
/-
  What the kernel computes, and the program as the launch theorem sees it. Generic in the float instance.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.ValueIdx (ix2)
open Idealize.ShloMosaic.SparseCore (S V T)
open Idealize.ShloMosaic.SparseCore.Cfg (HIx)
open Idealize.ShloMosaic.Rounds
open Idealize.SL Idealize.SL.RA Idealize.SL.BI
open Idealize.SL.Sem

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

abbrev xLoc (d : Dev nD) : Loc nD τ sig := (SparseCore.T d).loc main_arg0
abbrev dlLoc (d : Dev nD) : Loc nD τ sig := (SparseCore.T d).loc main_arg1
abbrev dsLoc (d : Dev nD) : Loc nD τ sig := (SparseCore.T d).loc main_arg2
abbrev oLoc (d : Dev nD) : Loc nD τ sig := (SparseCore.T d).loc main_v0

variable (m : (ℓ : Loc nD τ sig) → Buf (Elt F) ℓ)

/-- The word names a column. -/
def InRange (w : BitVec 32) : Prop := -1 ≤ w.toInt ∧ w.toInt < 2080

/-- What the proof asks of the launch memory: every entry of the two index rows is −1 or a column. -/
def PreOK : Prop := ∀ (d : Dev nD) (j : S1x2080.Idx), InRange (m (dlLoc d) j) ∧ InRange (m (dsLoc d) j)

/-! ## The value -/

variable [FloatOps F]

/-- The column a word names; a word naming none counts as column 0. -/
def col (w : BitVec 32) : Fin 2080 := if h : w.toNat < 2080 then ⟨w.toNat, h⟩ else 0

/-- One element's normalization: its value less the location, over the scale; a negative index means location 0,
    scale 1. -/
def norm (xv : F .f32) (l s : BitVec 32) (gl gs : F .f32) : F .f32 :=
  FloatOps.divf (FloatOps.subf xv (if l.slt 0#32 then FloatOps.ofBits .f32 0x00000000#32 else gl))
    (if s.slt 0#32 then FloatOps.ofBits .f32 0x3F800000#32 else gs)

/-- The normalized element `j` of `n` rows `X` by the index rows `dl` and `ds`. -/
def cell {n : ℕ} (X : (⟨2, ![n, 2080]⟩ : Shape).Idx → F .f32) (dl ds : S1x2080.Idx → BitVec 32)
    (j : (⟨2, ![n, 2080]⟩ : Shape).Idx) : F .f32 :=
  norm (X j) (dl (ix2 (0 : Fin 1) (j 1 : Fin 2080))) (ds (ix2 (0 : Fin 1) (j 1 : Fin 2080)))
    (X (ix2 (j 0 : Fin n) (col (dl (ix2 (0 : Fin 1) (j 1 : Fin 2080))))))
    (X (ix2 (j 0 : Fin n) (col (ds (ix2 (0 : Fin 1) (j 1 : Fin 2080))))))

/-- The kernel's whole result. -/
def OUT (d : Dev nD) : Buf (Elt F) (oLoc d) :=
  cell (n := 16384) (m (xLoc d)) (m (dlLoc d)) (m (dsLoc d))

end Cert.Proof.KernelIdeal

end
-- ==== Proof.Ideal.Row.lean ====
/-
  One row of one block of 16 columns: the check, the three reads of the fetched rows, the dead read and the store,
  proved once for the 16 rows the kernel spells out.
-/
module

public import proofs.«01_k».proof.Proof.Ideal.Setup

@[expose] public section

noncomputable section

namespace Cert.Proof.KernelIdeal

open Cert.KernelIdeal Cert.KernelIdeal.Gen

open Idealize.ShloMosaic
open Idealize.ShloMosaic.ValueIdx (ix2)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "sX" => (Memref.whole Cert.KernelIdeal.cc0_scratch0 : Memref Cert.KernelIdeal.sig Kind.scVector Space.vmem Cert.KernelIdeal.S16x2080 EltTy.f32)
local notation "sO" => (Memref.whole Cert.KernelIdeal.cc0_scratch1 : Memref Cert.KernelIdeal.sig Kind.scVector Space.vmem Cert.KernelIdeal.S16x2080 EltTy.f32)

/-! ## Words -/

/-- The larger of an in-range word and zero, unsigned, is the column the word names. -/
theorem maxsi_toNat {w : BitVec 32} (h : InRange w) : (IntOp.maxsi w 0#32).toNat = (col w).val := by
  obtain ⟨h1, h2⟩ := h
  unfold IntOp.maxsi col
  rw [BitVec.slt_eq_decide]
  simp only [BitVec.toInt_zero, decide_eq_true_eq]
  have hp : 0 < w.toInt ∧ w.toNat < 2080 ∨ ¬ 0 < w.toInt ∧ ¬ (0 < w.toNat ∧ w.toNat < 2080) := by
    rw [BitVec.toInt_eq_toNat_cond] at h1 h2 ⊢; omega
  rcases hp with ⟨hp, hw⟩ | ⟨hp, hw⟩
  · rw [if_pos hp, dif_pos hw]
  · rw [if_neg hp]
    split
    · next h => show 0 = w.toNat; omega
    · rfl

/-! ## The row's payload -/

/-- What the kernel stores for a row: from the two masks, the row's 16 elements and the two gathered vectors. -/
def rowPay (ml ms : IVec S16 1) (v : Vec F S1x16 .f32) (gl gs : Vec F S16 .f32) : FVec F S16 .f32 :=
  divf (subf (shapeCast S16 v shapeCasts_S1x16_S16) (select ml (broadcast S16 (Scalar.ofBits .f32 0x00000000#32)) gl))
    (select ms (broadcast S16 (Scalar.ofBits .f32 0x3F800000#32)) gs)

/-- Columns before `16 g` are done on every row, those of block `g` on the rows before `r`. -/
def RowsDone (X : Vec F S16x2080 .f32) (dl ds : IVec S1x2080 32) (g r : ℕ) (f : Vec F S16x2080 .f32) : Prop :=
  ∀ j : S16x2080.Idx, ((j 1).val < 16 * g ∨ ((j 1).val < 16 * (g + 1) ∧ (j 0).val < r)) → f j = cell (n := 16) X dl ds j

/-- All 16 rows of block `g` done: block `g + 1` is next. -/
theorem RowsDone.next {X : Vec F S16x2080 .f32} {dl ds : IVec S1x2080 32} {g : ℕ} {f : Vec F S16x2080 .f32}
    (h : RowsDone X dl ds g 16 f) : RowsDone X dl ds (g + 1) 0 f := fun j hj =>
  h j (by have h0 : (j 0).val < 16 := (j 0).isLt
          omega)

/-- Lane `k` of the 16 columns at `16 g`. -/
def lane (g : ℕ) (hg : g < 130) (x : Fin 16) : Fin 2080 := ⟨16 * g + x.val, by have h := x.isLt; omega⟩

/-- The index vector the kernel gathers by: block `g` of an index row, clamped. -/
def clampVec (dl : IVec S1x2080 32) (g : ℕ) (hg : g < 130) : IVec S16 32 := fun x => IntOp.maxsi (dl (ix2 (0 : Fin 1) (lane g hg (x 0)))) 0#32
/-- The mask: the negative lanes of block `g` of an index row. -/
def negVec (dl : IVec S1x2080 32) (g : ℕ) (hg : g < 130) : IVec S16 1 := fun x => IntOp.cmpi .slt (dl (ix2 (0 : Fin 1) (lane g hg (x 0)))) 0#32

/-- Row `r` of the checks: both gathers stay inside the fetched rows. -/
theorem chk_of_pre {dl ds : IVec S1x2080 32} (hdl : ∀ j, InRange (dl j)) (hds : ∀ j, InRange (ds j)) {g : ℕ} (hg : g < 130)
    {vr : IVec S16 32} {r : ℕ} (hr : r < 16) (hvr : vr = broadcast S16 (BitVec.ofNat 32 r)) :
    (∀ a x, ((![vr, clampVec dl g hg] : Fin 2 → IVec S16 32) a x).toNat < S16x2080.size a)
      ∧ (∀ a x, ((![vr, clampVec ds g hg] : Fin 2 → IVec S16 32) a x).toNat < S16x2080.size a) := by
  have h0 : ∀ x, (vr x).toNat < 16 := fun x => by
    subst hvr; show (BitVec.ofNat 32 r).toNat < 16
    rw [BitVec.toNat_ofNat]; omega
  have h1 : ∀ (e : IVec S1x2080 32), (∀ j, InRange (e j)) → ∀ x, (clampVec e g hg x).toNat < 2080 := fun e he x => by
    unfold clampVec; rw [maxsi_toNat (he _)]; exact (col _).isLt
  constructor <;> intro a x <;> match a with
    | ⟨0, _⟩ => exact h0 x
    | ⟨1, _⟩ => first | exact h1 dl hdl x | exact h1 ds hds x

/-! ## The row's value -/

/-- What a masked element's choice is: the constant on a negative word. -/
theorem select_neg {α : Type} (w : BitVec 32) (a b : α) :
    Scalar.select (IntOp.cmpi .slt w 0#32) a b = if w.slt 0#32 then a else b := by
  unfold Scalar.select IntOp.cmpi
  cases h : w.slt 0#32 <;> simp

variable {X : Vec F S16x2080 .f32} {dl ds : IVec S1x2080 32}

/-- A gather of row `r` by a clamped index row reads the columns the words name. -/
theorem gather_apply {e : IVec S1x2080 32} (he : ∀ j, InRange (e j)) {g : ℕ} (hg : g < 130) {vr : IVec S16 32} {r : ℕ} (hr : r < 16)
    (hvr : vr = broadcast S16 (BitVec.ofNat 32 r))
    (hin : ∀ a x, ((![vr, clampVec e g hg] : Fin 2 → IVec S16 32) a x).toNat < S16x2080.size a) (x : S16.Idx) :
    loadIdx (F := F) X ![vr, clampVec e g hg] hin x
      = X (ix2 (⟨r, hr⟩ : Fin 16) (col (e (ix2 (0 : Fin 1) (lane g hg (x 0)))))) := by
  unfold loadIdx idxAt
  congr 1
  funext a
  match a with
  | ⟨0, _⟩ =>
    apply Fin.ext
    show (vr x).toNat = r
    rw [hvr]; show (BitVec.ofNat 32 r).toNat = r
    rw [BitVec.toNat_ofNat]; omega
  | ⟨1, _⟩ =>
    apply Fin.ext
    exact maxsi_toNat (he _)

/-- The stored row, lane by lane, is the normalized row. -/
theorem rowPay_apply (hdl : ∀ j, InRange (dl j)) (hds : ∀ j, InRange (ds j)) {g : ℕ} (hg : g < 130) {vr : IVec S16 32} {r : ℕ} (hr : r < 16)
    (hvr : vr = broadcast S16 (BitVec.ofNat 32 r))
    (h1 : ∀ a x, ((![vr, clampVec dl g hg] : Fin 2 → IVec S16 32) a x).toNat < S16x2080.size a)
    (h2 : ∀ a x, ((![vr, clampVec ds g hg] : Fin 2 → IVec S16 32) a x).toNat < S16x2080.size a)
    (v : Vec F S1x16 .f32) (hv : ∀ y : S16.Idx, v (ix2 (0 : Fin 1) (y 0 : Fin 16)) = X (ix2 (⟨r, hr⟩ : Fin 16) (lane g hg (y 0)))) (x : S16.Idx) :
    rowPay (negVec dl g hg) (negVec ds g hg) v (loadIdx X ![vr, clampVec dl g hg] h1) (loadIdx X ![vr, clampVec ds g hg] h2) x
      = cell (n := 16) X dl ds (ix2 (⟨r, hr⟩ : Fin 16) (lane g hg (x 0))) := by
  show FloatOps.divf (FloatOps.subf (shapeCast S16 v shapeCasts_S1x16_S16 x) (Scalar.select (negVec dl g hg x) _ (loadIdx X _ h1 x)))
      (Scalar.select (negVec ds g hg x) _ (loadIdx X _ h2 x)) = _
  unfold negVec
  rw [select_neg, select_neg, gather_apply hdl hg hr hvr, gather_apply hds hg hr hvr,
    shapeCast_apply v shapeCasts_S1x16_S16 x (ix2 (0 : Fin 1) (x 0 : Fin 16)) (by
      rw [Shape.rowMajor_val_two, Shape.rowMajor_val_one]; simp), hv]
  rfl

/-- The rectangle of row `r`, block `g`. -/
theorem row_emb {off : Fin 2 → ℕ} {inb : ∀ a, off a + S1x16.size a ≤ S16x2080.size a} {r g : ℕ} (hr : r < 16) (hg : g < 130)
    (ho : off = ![r, 16 * g]) (y : S1x16.Idx) :
    (Rect.unit (s := S16x2080) off S1x16.size inb).emb y = ix2 (⟨r, hr⟩ : Fin 16) (lane g hg (y 1)) := by
  subst ho
  funext a
  apply Fin.ext
  match a with
  | ⟨0, _⟩ =>
    show r + 1 * (y 0).val = r
    have : (y 0).val < 1 := (y 0).isLt
    omega
  | ⟨1, _⟩ =>
    show 16 * g + 1 * (y 1).val = 16 * g + (y 1).val
    omega

/-- Storing row `r` of block `g` advances the done rows by one. -/
theorem RowsDone.step (hdl : ∀ j, InRange (dl j)) (hds : ∀ j, InRange (ds j)) {g r : ℕ} (hg : g < 130) (hr : r < 16)
    {f : Vec F S16x2080 .f32} (hf : RowsDone X dl ds g r f)
    {off : Fin 2 → ℕ} {inb : ∀ a, off a + S1x16.size a ≤ S16x2080.size a} (ho : off = ![r, 16 * g]) {w : Vec F S1x16 .f32}
    (hw : ∀ y : S1x16.Idx, w y = cell (n := 16) X dl ds (ix2 (⟨r, hr⟩ : Fin 16) (lane g hg (y 1)))) :
    RowsDone X dl ds g (r + 1) (((sO).access (Rect.unit (s := S16x2080) off S1x16.size inb)).write (Elt F) f w Finset.univ) := by
  intro j hj
  have e1 : ∀ y, ((sO).access (Rect.unit (s := S16x2080) off S1x16.size inb)).emb y = ix2 (⟨r, hr⟩ : Fin 16) (lane g hg (y 1)) :=
    row_emb hr hg ho
  by_cases h : (j 0).val = r ∧ 16 * g ≤ (j 1).val ∧ (j 1).val < 16 * (g + 1)
  · have hj' : j = ((sO).access (Rect.unit (s := S16x2080) off S1x16.size inb)).emb
        (ix2 (0 : Fin 1) (⟨(j 1).val - 16 * g, by omega⟩ : Fin 16)) := by
      rw [e1]; funext a; apply Fin.ext
      match a with
      | ⟨0, _⟩ => exact h.1
      | ⟨1, _⟩ => show (j 1).val = 16 * g + ((j 1).val - 16 * g); omega
    rw [hj', View.write_emb_of_mem _ _ (Finset.mem_univ _), e1]
    exact hw _
  · rw [View.write_of_not_mem]
    · exact hf j (by omega)
    · intro hm
      obtain ⟨y, -, rfl⟩ := Finset.mem_map.mp hm
      apply h
      rw [e1]
      have hy : (y 1).val < 16 := (y 1).isLt
      refine ⟨rfl, ?_, ?_⟩
      · show 16 * g ≤ 16 * g + (y 1).val; omega
      · show 16 * g + (y 1).val < 16 * (g + 1); omega

/-- The 16 lanes stored as one row: element `y` is lane `y 1`. -/
theorem cast_row {α : Type} (p : S16.Idx → α) (y : S1x16.Idx) :
    shapeCast S1x16 p shapeCasts_S16_S1x16 y = p (fun | ⟨0, _⟩ => (y 1 : Fin 16)) :=
  shapeCast_apply p shapeCasts_S16_S1x16 y _ (by
    rw [Shape.rowMajor_val_two, Shape.rowMajor_val_one]
    have h : (y 0).val < 1 := (y 0).isLt
    have h' : (y 0).val = 0 := by omega
    rw [h']; show (y 1).val = 0 * 16 + (y 1).val; omega)

/-! ## The row's step -/

/-- The fetched rows beside the rows being written, done as `RowsDone g r` says. -/
def Rows (d : Dev nD) (c : Fin τ.nSC) (i : Fin τ.nSub) (X : Vec F S16x2080 .f32) (dl ds : IVec S1x2080 32) (g r : ℕ) : sProp 𝕄 :=
  iprop(∃ f, ⌜RowsDone X dl ds g r f⌝ ∗ ((sX).view.loc (V d c i) ↦{fullShare} X) ∗ ((sO).view.loc (V d c i) ↦{fullShare} f))

/-- The program of one row: check, read the row's block, gather twice, read the target (unused), store. -/
theorem row_step (d : Dev nD) (c : Fin τ.nSC) (i : Fin τ.nSub) {α : Type} (hdl : ∀ j, InRange (dl j)) (hds : ∀ j, InRange (ds j))
    {g : ℕ} (hg : g < 130) {v15 v17 : IVec S16 32} {v19 v21 : IVec S16 1} (h15 : v15 = clampVec dl g hg) (h17 : v17 = clampVec ds g hg)
    (h19 : v19 = negVec dl g hg) (h21 : v21 = negVec ds g hg) (r : ℕ) (hr : r < 16)
    {offL offS : Fin 2 → ℕ} {inbL : ∀ a, offL a + S1x16.size a ≤ S16x2080.size a} {inbS : ∀ a, offS a + S1x16.size a ≤ S16x2080.size a}
    (hoL : offL = ![r, 16 * g]) (hoS : offS = ![r, 16 * g])
    {chk : Prop} {dec : Decidable chk} {hl1 hl2 hl3 hl4 hx hm}
    {W : PLift chk → Vec F S1x16 .f32 → Vec F S16x2080 .f32 → Vec F S16x2080 .f32 → Vec F S1x16 .f32}
    {k : PLift chk → Vec F S1x16 .f32 → Vec F S16x2080 .f32 → Vec F S16x2080 .f32 → Vec F S1x16 .f32 → PUnit → Prog (TpuEff nD τ sig (Elt F) Λ₀ (V d c i).2) α} {Q : α → sProp 𝕄}
    (hchk : chk = ((∀ a x, ((![broadcast S16 (BitVec.ofNat 32 r), v15] : Fin 2 → IVec S16 32) a x).toNat < S16x2080.size a)
      ∧ (∀ a x, ((![broadcast S16 (BitVec.ofNat 32 r), v17] : Fin 2 → IVec S16 32) a x).toNat < S16x2080.size a)))
    (hW : ∀ hw h1 h2 v f1 f2, W hw v f1 f2 = shapeCast S1x16
      (rowPay v19 v21 v (loadIdx f1 ![broadcast S16 (BitVec.ofNat 32 r), v15] h1) (loadIdx f2 ![broadcast S16 (BitVec.ofNat 32 r), v17] h2)) shapeCasts_S16_S1x16)
    {R : sProp 𝕄}
    (hk : ∀ hw v f1 f2 u, iprop(Rows d c i X dl ds g (r + 1) ∗ R) ⊢ wp frame (wpE (defs₀ (F := F)) 𝒱₀ (V d c i) none) Set.univ (k hw v f1 f2 u ⟨⟩) Q) :
    iprop(Rows d c i X dl ds g r ∗ R)
      ⊢ wp frame (wpE (defs₀ (F := F)) 𝒱₀ (V d c i) none) Set.univ
          (.op (.assume chk dec) fun hw => .op (.load sX (Rect.unit (s := S16x2080) offL S1x16.size inbL).toLoadRect hl1) fun v =>
            .op (.load sX (LoadRect.whole S16x2080) hl2) fun f1 => .op (.load sX (LoadRect.whole S16x2080) hl3) fun f2 =>
            .op (.load sO (Rect.unit (s := S16x2080) offS S1x16.size inbS).toLoadRect hl4) fun u =>
            .op (.store sO (Rect.unit (s := S16x2080) offS S1x16.size inbS) (W hw v f1 f2) Finset.univ hx hm) (k hw v f1 f2 u)) Q := by
  subst h15 h17 h19 h21
  have hc := chk_of_pre hdl hds hg hr rfl
  have hs : ∀ f, RowsDone X dl ds g r f → RowsDone X dl ds g (r + 1) (((sO).access (Rect.unit (s := S16x2080) offS S1x16.size inbS)).write (Elt F) f
      (W ⟨hchk ▸ hc⟩ ((sX).view.readAt (Elt F) (Rect.unit (s := S16x2080) offL S1x16.size inbL).toLoadRect X)
        ((sX).view.readAt (Elt F) (LoadRect.whole S16x2080) X)
        ((sX).view.readAt (Elt F) (LoadRect.whole S16x2080) X)) Finset.univ) := by
    intro f hf; refine RowsDone.step hdl hds hg hr hf hoS fun y => ?_
    rw [hW _ hc.1 hc.2, cast_row]
    have hv : ∀ z : S16.Idx, (sX).view.readAt (Elt F) (Rect.unit (s := S16x2080) offL S1x16.size inbL).toLoadRect X (ix2 (0 : Fin 1) (z 0 : Fin 16))
        = X (ix2 (⟨r, hr⟩ : Fin 16) (lane g hg (z 0))) := fun z => congrArg X (row_emb (inb := inbL) hr hg hoL (ix2 (0 : Fin 1) (z 0 : Fin 16)))
    have hx : (sX).view.readAt (Elt F) (LoadRect.whole S16x2080) X = X := Memref.readAt_whole (Elt F) cc0_scratch0 X
    rw [hx]
    exact rowPay_apply hdl hds hg hr rfl hc.1 hc.2 _ hv _
  rw [wp_assume_of _ _ _ _ (hchk ▸ hc : chk)]
  unfold Rows
  iintro ⟨⟨%f, %hf, HX, HO⟩, HR⟩
  iapply (wp_load 𝒱₀ (V d c i) none Set.univ (m := sX) (S := Finset.univ) (Finset.subset_univ _)) $$ HX
  iintro HX
  iapply (wp_load 𝒱₀ (V d c i) none Set.univ (m := sX) (S := Finset.univ) (Finset.subset_univ _)) $$ HX
  iintro HX
  iapply (wp_load 𝒱₀ (V d c i) none Set.univ (m := sX) (S := Finset.univ) (Finset.subset_univ _)) $$ HX
  iintro HX
  iapply (wp_load 𝒱₀ (V d c i) none Set.univ (m := sO) (S := Finset.univ) (Finset.subset_univ _)) $$ HO
  iintro HO
  iapply (wp_store 𝒱₀ (V d c i) none Set.univ (m := sO) (r := Rect.unit (s := S16x2080) offS S1x16.size inbS) (Mk := Finset.univ) (S := Finset.univ) (Finset.subset_univ _)) $$ HO
  iintro HO
  iapply (hk _ _ _ _ _)
  isplitr [HR]
  · unfold Rows
    iexists _
    isplitr
    · ipureintro; exact hs f hf
    isplitl [HX] <;> iassumption
  · iexact HR

end Cert.Proof.KernelIdeal

end
-- ==== Proof.Ideal.Inner.lean ====
/-
  One trip of the kernel's inner loop: 16 columns of the 16 fetched rows.
-/
module

public import proofs.«01_k».proof.Proof.Ideal.Row

@[expose] public section

noncomputable section

namespace Cert.Proof.KernelIdeal

open Cert.KernelIdeal Cert.KernelIdeal.Gen

open Idealize.ShloMosaic
open Idealize.ShloMosaic.ValueIdx (ix2)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S16384x2080 EltTy.f32)
local notation "dlW" => (Memref.whole Cert.KernelIdeal.main_arg1_scv : Memref Cert.KernelIdeal.sig Kind.scVector Space.hbm Cert.KernelIdeal.S1x2080 EltTy.i32)
local notation "dsW" => (Memref.whole Cert.KernelIdeal.main_arg2_scv : Memref Cert.KernelIdeal.sig Kind.scVector Space.hbm Cert.KernelIdeal.S1x2080 EltTy.i32)
local notation "oW" => (Memref.whole Cert.KernelIdeal.main_v0_scv : Memref Cert.KernelIdeal.sig Kind.scVector Space.hbm Cert.KernelIdeal.S16384x2080 EltTy.f32)
local notation "sX" => (Memref.whole Cert.KernelIdeal.cc0_scratch0 : Memref Cert.KernelIdeal.sig Kind.scVector Space.vmem Cert.KernelIdeal.S16x2080 EltTy.f32)
local notation "sO" => (Memref.whole Cert.KernelIdeal.cc0_scratch1 : Memref Cert.KernelIdeal.sig Kind.scVector Space.vmem Cert.KernelIdeal.S16x2080 EltTy.f32)
local notation "sDl" => (Memref.whole Cert.KernelIdeal.cc0_scratch2 : Memref Cert.KernelIdeal.sig Kind.scVector Space.vmem Cert.KernelIdeal.S1x2080 EltTy.i32)
local notation "sDs" => (Memref.whole Cert.KernelIdeal.cc0_scratch3 : Memref Cert.KernelIdeal.sig Kind.scVector Space.vmem Cert.KernelIdeal.S1x2080 EltTy.i32)

variable {X : Vec F S16x2080 .f32} {dl ds : IVec S1x2080 32}

/-- The inner loop takes 130 trips. -/
theorem trips2 (g : Fin k0_t2_loop.trips) : g.val < 130 := g.isLt

/-- Block `g` of an index row, as a vector of 16 lanes. -/
theorem block_apply {off : Fin 2 → ℕ} {inb : ∀ a, off a + S1x16.size a ≤ S1x2080.size a} {g : ℕ} (hg : g < 130) (ho : off = ![0, 16 * g])
    (x : S16.Idx) (v : Vec F S1x16 .i32) (hv : ∀ y, v y = dl ((Rect.unit (s := S1x2080) off S1x16.size inb).emb y)) :
    shapeCast S16 v shapeCasts_S1x16_S16 x = dl (ix2 (0 : Fin 1) (lane g hg (x 0))) := by
  subst ho
  rw [shapeCast_apply v shapeCasts_S1x16_S16 x (ix2 (0 : Fin 1) (x 0 : Fin 16)) (by
      rw [Shape.rowMajor_val_two, Shape.rowMajor_val_one]; simp), hv]
  congr 1
  funext a
  apply Fin.ext
  match a with
  | ⟨0, _⟩ => rfl
  | ⟨1, _⟩ => show 16 * g + 1 * (x 0).val = 16 * g + (x 0).val; omega

/-- Reading block `g` of an index row (either scratch): some 16 words, each the row's at its place. -/
theorem load_block (thr : Thread nD τ) {α : Type} {cs : CoreSpace} (b : Memref sig thr.2.kind cs S1x2080 .i32) {r : Rect S1x2080}
    {hl : b.view.LoadsAt r.toLoadRect} {k : (r.shape.Idx → BitVec 32) → Prog (TpuEff nD τ sig (Elt F) Λ₀ thr.2) α} {Q : α → sProp 𝕄}
    {f : Buf (Elt F) (b.view.loc thr)}
    {R : sProp 𝕄} (hk : ∀ v, (∀ y, v y = b.view.read (Elt F) f (r.emb y))
      → iprop((b.view.loc thr ↦{fullShare} f) ∗ R) ⊢ wp frame (wpE (defs₀ (F := F)) 𝒱₀ thr none) Set.univ (k v) Q) :
    iprop((b.view.loc thr ↦{fullShare} f) ∗ R)
      ⊢ wp frame (wpE (defs₀ (F := F)) 𝒱₀ thr none) Set.univ (.op (.load b r.toLoadRect hl) k) Q := by
  iintro ⟨H, HR⟩
  iapply (wp_load 𝒱₀ thr none Set.univ (m := b) (S := Finset.univ) (Finset.subset_univ _)) $$ H
  iintro H
  iapply hk _ (fun _ => rfl)
  isplitl [H] <;> iassumption

/-- One trip of the inner loop: block `g` of all 16 rows. -/
theorem block_step (d : Dev nD) (L : grid0.Coords) (hdl : ∀ j, InRange (dl j)) (hds : ∀ j, InRange (ds j)) (g : Fin k0_t2_loop.trips)
    {h2 h3 h4 h5 h6 h7 h8 h9} {a b c e : DmaSems sig S_} (Q : Unit → sProp 𝕄) :
    iprop(Rows d ((L 0).castLE hcore0) ((L 1).castLE hsub0) X dl ds g.val 0
        ∗ ((sDl).view.loc (V d ((L 0).castLE hcore0) ((L 1).castLE hsub0)) ↦{fullShare} dl)
        ∗ ((sDs).view.loc (V d ((L 0).castLE hcore0) ((L 1).castLE hsub0)) ↦{fullShare} ds)
        ∗ (Rows d ((L 0).castLE hcore0) ((L 1).castLE hsub0) X dl ds (g.val + 1) 0
          -∗ ((sDl).view.loc (V d ((L 0).castLE hcore0) ((L 1).castLE hsub0)) ↦{fullShare} dl)
          -∗ ((sDs).view.loc (V d ((L 0).castLE hcore0) ((L 1).castLE hsub0)) ↦{fullShare} ds) -∗ Q ⟨⟩))
      ⊢ wp frame (wpE (defs₀ (F := F)) 𝒱₀ (V d ((L 0).castLE hcore0) ((L 1).castLE hsub0)) none) Set.univ
          (k0_t2_body (F := F) L xW h2 dlW h3 dsW h4 oW h5 sX h6 sO h7 sDl h8 sDs h9 a b c e g ⟨⟩) Q := by
  unfold k0_t2_body
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel SparseCore.vectorLoadIdx
  simp only [Prog.lift, Prog.bind_op, Prog.bind_ret, Prog.pure_eq_ret]
  refine Entails.trans sep_left_comm.1 (load_block (V d ((L 0).castLE hcore0) ((L 1).castLE hsub0)) sDl fun v10 hv => ?_)
  refine Entails.trans ((sep_mono_right sep_left_comm.1).trans sep_left_comm.1) (load_block (V d ((L 0).castLE hcore0) ((L 1).castLE hsub0)) sDs fun v13 hw => ?_)
  refine Entails.trans ((sep_mono_right sep_left_comm.1).trans sep_left_comm.1) ?_
  have hg := trips2 g
  have e15 : k0_pay5 (F := F) v10 = clampVec dl g.val hg := funext fun x => congrArg (IntOp.maxsi · 0#32) (block_apply (F := F) hg (k0_off2_eq g) x v10 hv)
  have e17 : k0_pay6 (F := F) v13 = clampVec ds g.val hg := funext fun x => congrArg (IntOp.maxsi · 0#32) (block_apply (F := F) hg (k0_off2_eq g) x v13 hw)
  have e19 : k0_pay7 (F := F) v10 = negVec dl g.val hg := funext fun x => congrArg (IntOp.cmpi .slt · 0#32) (block_apply (F := F) hg (k0_off2_eq g) x v10 hv)
  have e21 : k0_pay8 (F := F) v13 = negVec ds g.val hg := funext fun x => congrArg (IntOp.cmpi .slt · 0#32) (block_apply (F := F) hg (k0_off2_eq g) x v13 hw)
  clear hv hw
  refine row_step d _ _ hdl hds hg e15 e17 e19 e21 0 (by decide) (k0_off3_eq g) (k0_off4_eq g) (by rfl) (by intros; rfl) fun _ _ _ _ _ => ?_
  refine row_step d _ _ hdl hds hg e15 e17 e19 e21 1 (by decide) (k0_off5_eq g) (k0_off6_eq g) (by rfl) (by intros; rfl) fun _ _ _ _ _ => ?_
  refine row_step d _ _ hdl hds hg e15 e17 e19 e21 2 (by decide) (k0_off7_eq g) (k0_off8_eq g) (by rfl) (by intros; rfl) fun _ _ _ _ _ => ?_
  refine row_step d _ _ hdl hds hg e15 e17 e19 e21 3 (by decide) (k0_off9_eq g) (k0_off10_eq g) (by rfl) (by intros; rfl) fun _ _ _ _ _ => ?_
  refine row_step d _ _ hdl hds hg e15 e17 e19 e21 4 (by decide) (k0_off11_eq g) (k0_off12_eq g) (by rfl) (by intros; rfl) fun _ _ _ _ _ => ?_
  refine row_step d _ _ hdl hds hg e15 e17 e19 e21 5 (by decide) (k0_off13_eq g) (k0_off14_eq g) (by rfl) (by intros; rfl) fun _ _ _ _ _ => ?_
  refine row_step d _ _ hdl hds hg e15 e17 e19 e21 6 (by decide) (k0_off15_eq g) (k0_off16_eq g) (by rfl) (by intros; rfl) fun _ _ _ _ _ => ?_
  refine row_step d _ _ hdl hds hg e15 e17 e19 e21 7 (by decide) (k0_off17_eq g) (k0_off18_eq g) (by rfl) (by intros; rfl) fun _ _ _ _ _ => ?_
  refine row_step d _ _ hdl hds hg e15 e17 e19 e21 8 (by decide) (k0_off19_eq g) (k0_off20_eq g) (by rfl) (by intros; rfl) fun _ _ _ _ _ => ?_
  refine row_step d _ _ hdl hds hg e15 e17 e19 e21 9 (by decide) (k0_off21_eq g) (k0_off22_eq g) (by rfl) (by intros; rfl) fun _ _ _ _ _ => ?_
  refine row_step d _ _ hdl hds hg e15 e17 e19 e21 10 (by decide) (k0_off23_eq g) (k0_off24_eq g) (by rfl) (by intros; rfl) fun _ _ _ _ _ => ?_
  refine row_step d _ _ hdl hds hg e15 e17 e19 e21 11 (by decide) (k0_off25_eq g) (k0_off26_eq g) (by rfl) (by intros; rfl) fun _ _ _ _ _ => ?_
  refine row_step d _ _ hdl hds hg e15 e17 e19 e21 12 (by decide) (k0_off27_eq g) (k0_off28_eq g) (by rfl) (by intros; rfl) fun _ _ _ _ _ => ?_
  refine row_step d _ _ hdl hds hg e15 e17 e19 e21 13 (by decide) (k0_off29_eq g) (k0_off30_eq g) (by rfl) (by intros; rfl) fun _ _ _ _ _ => ?_
  refine row_step d _ _ hdl hds hg e15 e17 e19 e21 14 (by decide) (k0_off31_eq g) (k0_off32_eq g) (by rfl) (by intros; rfl) fun _ _ _ _ _ => ?_
  refine row_step d _ _ hdl hds hg e15 e17 e19 e21 15 (by decide) (k0_off33_eq g) (k0_off34_eq g) (by rfl) (by intros; rfl) fun _ _ _ _ _ => ?_
  unfold Rows
  iintro ⟨⟨%f, %hf, HX, HO⟩, Hds, Hdl, Hk⟩
  iapply (le_wp_ret _ _)
  iapply Hk $$ [HX HO] Hdl Hds
  iexists _
  isplitr
  · ipureintro; exact hf.next
  isplitl [HX] <;> iassumption

end Cert.Proof.KernelIdeal

end
-- ==== Proof.Ideal.Chunks.lean ====
/-
  The 1024 chunks of 16 rows the tiles take in turn, and what a chunk's transfers carry.
-/
module

public import proofs.«01_k».proof.Proof.Ideal.Inner

@[expose] public section

noncomputable section

namespace Cert.Proof.KernelIdeal

open Cert.KernelIdeal Cert.KernelIdeal.Gen

open Idealize.ShloMosaic
open Idealize.ShloMosaic.ValueIdx (ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S16384x2080 EltTy.f32)
local notation "dlW" => (Memref.whole Cert.KernelIdeal.main_arg1_scv : Memref Cert.KernelIdeal.sig Kind.scVector Space.hbm Cert.KernelIdeal.S1x2080 EltTy.i32)
local notation "dsW" => (Memref.whole Cert.KernelIdeal.main_arg2_scv : Memref Cert.KernelIdeal.sig Kind.scVector Space.hbm Cert.KernelIdeal.S1x2080 EltTy.i32)
local notation "oW" => (Memref.whole Cert.KernelIdeal.main_v0_scv : Memref Cert.KernelIdeal.sig Kind.scVector Space.hbm Cert.KernelIdeal.S16384x2080 EltTy.f32)
local notation "sX" => (Memref.whole Cert.KernelIdeal.cc0_scratch0 : Memref Cert.KernelIdeal.sig Kind.scVector Space.vmem Cert.KernelIdeal.S16x2080 EltTy.f32)
local notation "sO" => (Memref.whole Cert.KernelIdeal.cc0_scratch1 : Memref Cert.KernelIdeal.sig Kind.scVector Space.vmem Cert.KernelIdeal.S16x2080 EltTy.f32)
local notation "sDl" => (Memref.whole Cert.KernelIdeal.cc0_scratch2 : Memref Cert.KernelIdeal.sig Kind.scVector Space.vmem Cert.KernelIdeal.S1x2080 EltTy.i32)
local notation "sDs" => (Memref.whole Cert.KernelIdeal.cc0_scratch3 : Memref Cert.KernelIdeal.sig Kind.scVector Space.vmem Cert.KernelIdeal.S1x2080 EltTy.i32)

variable (m : (ℓ : Loc nD τ sig) → Buf (Elt F) ℓ)

/-! ## The chunks -/

/-- The 16384 rows split into 1024 chunks. -/
theorem hdiv : 1024 ∣ S16384x2080.size 0 := ⟨16, rfl⟩

/-- The number of the chunk that tile `i` of SparseCore `c` takes in trip `t`. -/
def chunkNo (c : Fin 2) (i : Fin 16) (t : Fin 32) : Fin 1024 := ⟨(2 * i.val + c.val) * 32 + t.val, by omega⟩

/-- That chunk's 16 rows. -/
abbrev chunk (c : Fin 2) (i : Fin 16) (t : Fin 32) : Rect S16384x2080 := Rect.part (s := S16384x2080) (a₀ := 0) hdiv (chunkNo c i t)

/-- Different chunks share no element. -/
theorem chunks_disjoint (p p' : Fin 2 × Fin 16 × Fin 32) (h : p ≠ p') :
    Disjoint (chunk p.1 p.2.1 p.2.2).set (chunk p'.1 p'.2.1 p'.2.2).set := by
  refine Rect.part_disjoint hdiv fun e => h ?_
  obtain ⟨c, i, t⟩ := p
  obtain ⟨c', i', t'⟩ := p'
  have e : (2 * i.val + c.val) * 32 + t.val = (2 * i'.val + c'.val) * 32 + t'.val := congrArg Fin.val e
  refine Prod.ext (Fin.ext ?_) (Prod.ext (Fin.ext ?_) (Fin.ext ?_)) <;> dsimp only <;> omega

/-- Every chunk number is some tile's, in some trip. -/
theorem chunkNo_surj (n : Fin 1024) : ∃ p : Fin 2 × Fin 16 × Fin 32, chunkNo p.1 p.2.1 p.2.2 = n := by
  refine ⟨(⟨n.val / 32 % 2, by omega⟩, ⟨n.val / 64, by omega⟩, ⟨n.val % 32, by omega⟩), Fin.ext ?_⟩
  show (2 * (n.val / 64) + n.val / 32 % 2) * 32 + n.val % 32 = n.val
  omega

/-- The chunks of all tiles and trips make up the whole array. -/
theorem chunks_cover : (Finset.univ : Finset (Fin 2 × Fin 16 × Fin 32)).biUnion (fun p => (chunk p.1 p.2.1 p.2.2).set) = Finset.univ := by
  rw [← Rect.biUnion_part hdiv]
  refine Finset.ext fun j => Iff.trans Finset.mem_biUnion (Iff.trans ⟨fun h => ?_, fun h => ?_⟩ Finset.mem_biUnion.symm)
  · exact h.elim fun p hp => ⟨chunkNo p.1 p.2.1 p.2.2, Finset.mem_univ _, hp.2⟩
  · obtain ⟨n, -, hn⟩ := h
    obtain ⟨p, rfl⟩ := chunkNo_surj n
    exact ⟨p, Finset.mem_univ _, hn⟩

/-- An array of 16384 rows, held whole, is its chunks held. -/
theorem whole_chunks (d : Dev nD) (f : Buf (Elt F) (oLoc d)) :
    (oLoc d ↦{fullShare} f : sProp 𝕄)
      = bigSep Finset.univ fun c : Fin 2 => bigSep Finset.univ fun i : Fin 16 => bigSep Finset.univ fun t : Fin 32 =>
          oLoc d ↦[(chunk c i t).set]{fullShare} f := by
  rw [show (oLoc d ↦{fullShare} f : sProp 𝕄)
      = bigSep Finset.univ fun p : Fin 2 × Fin 16 × Fin 32 => oLoc d ↦[(chunk p.1 p.2.1 p.2.2).set]{fullShare} f from by
    rw [← pointsTo_biUnion Finset.univ (ℓ := oLoc d) (fun p : Fin 2 × Fin 16 × Fin 32 => (chunk p.1 p.2.1 p.2.2).set)
      (fun p _ p' _ h => chunks_disjoint p p' h), chunks_cover]; try rfl]
  rw [bigSep_univ_prod]
  refine bigSep_congr fun c _ => ?_
  rw [bigSep_univ_prod]

/-! ## The slice a trip transfers is its chunk -/

/-- The rows trip `t` of the task at `L` transfers. -/
abbrev rowK (L : grid0.Coords) (t : Fin k0_t1_loop.trips) : Rect S16384x2080 :=
  Rect.unit (s := S16384x2080) (k0_off1 L t) S16x2080.size (k0_off1_inb L t)

/-- The trip's chunk. -/
abbrev chunkL (L : grid0.Coords) (t : Fin k0_t1_loop.trips) : Rect S16384x2080 := chunk (L 0) (L 1) t

/-- The rows the trip transfers are its chunk. -/
theorem rowK_eq (L : grid0.Coords) (t : Fin k0_t1_loop.trips) : rowK L t = chunkL L t := by
  unfold rowK chunkL chunk Rect.part Rect.block
  congr 1 <;> funext a
  · rw [k0_off1_eq]
    match a with
    | 0 =>
      show 1024 * (L 1).val + 512 * (L 0).val + 16 * t.val = ((2 * (L 1).val + (L 0).val) * 32 + t.val) * 16
      omega
    | 1 => simp [Shape.partIx, Shape.partSize]
  · match a with
    | 0 => simp [Shape.partSize]
    | 1 => simp [Shape.partSize]

/-- The elements of the trip's slice of the result are its chunk's. -/
theorem set_oRow (L : grid0.Coords) (t : Fin k0_t1_loop.trips) :
    ((oW).slice (rowK L t) (fun _ => rfl)).view.set = (chunkL L t).set := by
  show ((View.whole main_v0_scv).slice (rowK L t)).set = _
  rw [View.set_slice, ← rowK_eq]
  exact Finset.map_refl

/-- Element `j` of the trip's slice, in the array. -/
theorem rowK_emb (L : grid0.Coords) (t : Fin k0_t1_loop.trips) (r : Fin 16) (k : Fin 2080) :
    (rowK L t).emb (ix2 r k) = ix2 (⟨1024 * (L 1).val + 512 * (L 0).val + 16 * t.val + r.val, by
      have h0 : (L 0).val < 2 := (L 0).isLt
      have h1 : (L 1).val < 16 := (L 1).isLt
      have ht : t.val < 32 := t.isLt
      omega⟩ : Fin 16384) k := by
  funext a
  apply Fin.ext
  match a with
  | ⟨0, _⟩ =>
    show k0_off1 L t 0 + 1 * r.val = 1024 * (L 1).val + 512 * (L 0).val + 16 * t.val + r.val
    rw [k0_off1_eq]
    show 1024 * (L 1).val + 512 * (L 0).val + 16 * t.val + 1 * r.val = _
    omega
  | ⟨1, _⟩ =>
    show k0_off1 L t 1 + 1 * k.val = k.val
    rw [k0_off1_eq]
    show 0 + 1 * k.val = k.val
    omega

/-- The 16 rows the trip fetches. -/
def fetched (d : Dev nD) (L : grid0.Coords) (t : Fin k0_t1_loop.trips) : Vec F S16x2080 .f32 := fun j => m (xLoc d) ((rowK L t).emb j)

/-- The normalized fetched rows are the result's rows of that chunk. -/
theorem cell_fetched (d : Dev nD) (L : grid0.Coords) (t : Fin k0_t1_loop.trips) (j : S16x2080.Idx) :
    cell (n := 16) (fetched m d L t) (m (dlLoc d)) (m (dsLoc d)) j = OUT m d ((rowK L t).emb j) := by
  obtain ⟨r, k, rfl⟩ : ∃ (r : Fin 16) (k : Fin 2080), j = ix2 r k := ⟨j 0, j 1, by
    funext a; match a with | ⟨0, _⟩ => rfl | ⟨1, _⟩ => rfl⟩
  unfold OUT cell fetched
  simp only [rowK_emb]

/-- What the write-out leaves in the chunk is the result's. -/
theorem written (d : Dev nD) (L : grid0.Coords) (t : Fin k0_t1_loop.trips) (f : Buf (Elt F) (oLoc d)) (w : Vec F S16x2080 .f32)
    (hw : ∀ j, w j = cell (n := 16) (fetched m d L t) (m (dlLoc d)) (m (dsLoc d)) j) :
    ∀ i ∈ (chunkL L t).set, ((oW).slice (rowK L t) (fun _ => rfl)).view.write (Elt F) f w Finset.univ i = OUT m d i := by
  intro i hi
  rw [← rowK_eq, ← Rect.map_emb_univ] at hi
  obtain ⟨j, -, rfl⟩ := Finset.mem_map.mp hi
  rw [← cell_fetched, ← hw]
  exact (View.write_emb_of_mem (v := ((oW).slice (rowK L t) (fun _ => rfl)).view) f w (Finset.mem_univ j)).trans (cast_eq _ _)

end Cert.Proof.KernelIdeal

end
-- ==== Proof.Ideal.Tile.lean ====
/-
  One tile's task: the two index rows fetched, then 32 chunks of 16 rows fetched, normalized and written out.
-/
module

public import proofs.«01_k».proof.Proof.Ideal.Chunks

@[expose] public section

noncomputable section

namespace Cert.Proof.KernelIdeal

open Cert.KernelIdeal Cert.KernelIdeal.Gen

open Idealize.ShloMosaic
open Idealize.ShloMosaic.ValueIdx (ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S16384x2080 EltTy.f32)
local notation "dlW" => (Memref.whole Cert.KernelIdeal.main_arg1_scv : Memref Cert.KernelIdeal.sig Kind.scVector Space.hbm Cert.KernelIdeal.S1x2080 EltTy.i32)
local notation "dsW" => (Memref.whole Cert.KernelIdeal.main_arg2_scv : Memref Cert.KernelIdeal.sig Kind.scVector Space.hbm Cert.KernelIdeal.S1x2080 EltTy.i32)
local notation "oW" => (Memref.whole Cert.KernelIdeal.main_v0_scv : Memref Cert.KernelIdeal.sig Kind.scVector Space.hbm Cert.KernelIdeal.S16384x2080 EltTy.f32)
local notation "sX" => (Memref.whole Cert.KernelIdeal.cc0_scratch0 : Memref Cert.KernelIdeal.sig Kind.scVector Space.vmem Cert.KernelIdeal.S16x2080 EltTy.f32)
local notation "sO" => (Memref.whole Cert.KernelIdeal.cc0_scratch1 : Memref Cert.KernelIdeal.sig Kind.scVector Space.vmem Cert.KernelIdeal.S16x2080 EltTy.f32)
local notation "sDl" => (Memref.whole Cert.KernelIdeal.cc0_scratch2 : Memref Cert.KernelIdeal.sig Kind.scVector Space.vmem Cert.KernelIdeal.S1x2080 EltTy.i32)
local notation "sDs" => (Memref.whole Cert.KernelIdeal.cc0_scratch3 : Memref Cert.KernelIdeal.sig Kind.scVector Space.vmem Cert.KernelIdeal.S1x2080 EltTy.i32)

variable (m : (ℓ : Loc nD τ sig) → Buf (Elt F) ℓ)

/-! ## One trip of the outer loop -/

section Tile

variable (d : Dev nD) (L : grid0.Coords)

abbrev cV (L : grid0.Coords) : Fin τ.nSC := (L 0).castLE hcore0
abbrev jV (L : grid0.Coords) : Fin τ.nSub := (L 1).castLE hsub0

/-- The tile's four transfer semaphores. -/
abbrev cell0 (c : Fin τ.nSC) (i : Fin τ.nSub) : GSem nD τ sig := (V d c i, .dma cc0_scoped0.sem)
abbrev cell1 (c : Fin τ.nSC) (i : Fin τ.nSub) : GSem nD τ sig := (V d c i, .dma cc0_scoped1.sem)
abbrev cell2 (c : Fin τ.nSC) (i : Fin τ.nSub) : GSem nD τ sig := (V d c i, .dma cc0_scoped2.sem)
abbrev cell3 (c : Fin τ.nSC) (i : Fin τ.nSub) : GSem nD τ sig := (V d c i, .dma cc0_scoped3.sem)

/-- The trip's slice of the result, as the transfer addresses it, is its chunk. -/
theorem pts_oRow (t : Fin k0_t1_loop.trips) (f : Buf (Elt F) (oLoc d)) :
    (((oW).slice (rowK L t) (fun _ => rfl)).view.loc (V d (cV L) (jV L)) ↦[((oW).slice (rowK L t) (fun _ => rfl)).view.set]{fullShare} f : sProp 𝕄)
      = oLoc d ↦[(chunkL L t).set]{fullShare} f := by
  rw [set_oRow]

/-- What the fetch leaves in the scratch is the chunk's 16 rows. -/
theorem fetch_lands (t : Fin k0_t1_loop.trips) (f : Vec F S16x2080 .f32) :
    (sX).view.write (Elt F) f (((xW).slice (rowK L t) (fun _ => rfl)).view.read (Elt F) (m (xLoc d))) Finset.univ = fetched m d L t :=
  (View.write_whole_univ _ _ _).trans (funext fun _ => (View.read_apply _ _).trans (cast_eq _ _))

/-- What the write-out leaves in the chunk is the result's rows. -/
theorem write_lands (t : Fin k0_t1_loop.trips) (f : Buf (Elt F) (oLoc d)) (w : Vec F S16x2080 .f32)
    (hw : ∀ j, w j = cell (n := 16) (fetched m d L t) (m (dlLoc d)) (m (dsLoc d)) j) :
    (((oW).slice (rowK L t) (fun _ => rfl)).view.loc (V d (cV L) (jV L)) ↦[((oW).slice (rowK L t) (fun _ => rfl)).view.set]{fullShare}
        ((oW).slice (rowK L t) (fun _ => rfl)).view.writes (Elt F) f [⟨Rect.whole (rowK L t).shape, w⟩] : sProp 𝕄)
      ⊢ oLoc d ↦[(chunkL L t).set]{fullShare} OUT m d := by
  rw [set_oRow]
  exact Entails.of_eq (pointsTo_congr fun i hi =>
    (congrFun (View.write_univ_eq_writes_whole ((oW).slice (rowK L t) (fun _ => rfl)).view f [] w).symm i).trans (written m d L t f w hw i hi))

/-- Before trip `n` the chunks of the earlier trips hold the result, the others what they held at the launch. -/
def chunkAt (n : ℕ) (t : Fin k0_t1_loop.trips) : sProp 𝕄 :=
  if t.val < n then oLoc d ↦[(chunkL L t).set]{fullShare} OUT m d else oLoc d ↦[(chunkL L t).set]{fullShare} m (oLoc d)

/-- Before trip `t` its chunk is as the launch left it. -/
theorem chunkAt_before (t : Fin k0_t1_loop.trips) : chunkAt m d L t.val t = (oLoc d ↦[(chunkL L t).set]{fullShare} m (oLoc d) : sProp 𝕄) :=
  if_neg (Nat.lt_irrefl _)

/-- After trip `t` its chunk holds the result. -/
theorem chunkAt_after (t : Fin k0_t1_loop.trips) : chunkAt m d L (t.val + 1) t = (oLoc d ↦[(chunkL L t).set]{fullShare} OUT m d : sProp 𝕄) :=
  if_pos (Nat.lt_succ_self _)

/-- Trip `t` leaves the other trips' chunks as they were. -/
theorem chunkAt_other (t : Fin k0_t1_loop.trips) :
    bigSep (Finset.univ.erase t) (fun t' => chunkAt m d L (t.val + 1) t') = bigSep (Finset.univ.erase t) fun t' => chunkAt m d L t.val t' :=
  bigSep_congr fun t' ht => by
    have h : t'.val ≠ t.val := fun e => Finset.ne_of_mem_erase ht (Fin.ext e)
    unfold chunkAt
    exact if_congr (by omega) rfl rfl

/-- The inner loop's invariant. -/
def inv2 (t : Fin k0_t1_loop.trips) (g : ℕ) (_ : Unit) : sProp 𝕄 :=
  iprop(Rows d (cV L) (jV L) (fetched m d L t) (m (dlLoc d)) (m (dsLoc d)) g 0
    ∗ ((sDl).view.loc (V d (cV L) (jV L)) ↦{fullShare} m (dlLoc d)) ∗ ((sDs).view.loc (V d (cV L) (jV L)) ↦{fullShare} m (dsLoc d)))

/-- The outer loop's invariant. -/
def inv1 (q : PosShare TreeShare) (O : CellTallies nD τ sig (HIx 1)) (W : Waits sig (HIx 1)) (n : ℕ) (_ : Unit) : sProp 𝕄 :=
  iprop(Transfers.MayWaits (V d (cV L) (jV L)) (none : HIx 1) O
    ∗ ((xW).view.loc (V d (cV L) (jV L)) ↦{q} m (xLoc d))
    ∗ (∃ f, (sX).view.loc (V d (cV L) (jV L)) ↦{fullShare} f)
    ∗ (∃ f, (sO).view.loc (V d (cV L) (jV L)) ↦{fullShare} f)
    ∗ ((sDl).view.loc (V d (cV L) (jV L)) ↦{fullShare} m (dlLoc d))
    ∗ ((sDs).view.loc (V d (cV L) (jV L)) ↦{fullShare} m (dsLoc d))
    ∗ semVal (cell2 d (cV L) (jV L)) 0 ∗ semVal (cell3 d (cV L) (jV L)) 0
    ∗ (bigSep Finset.univ fun t : Fin k0_t1_loop.trips => chunkAt m d L n t)
    ∗ ∃ W', ⌜∀ p ∈ W', p ∈ W ∨ p.2 = none⌝ ∗ owes (V d (cV L) (jV L)) O W')

/-- Before the first block nothing is asked of the scratch. -/
theorem rows_none {X : Vec F S16x2080 .f32} {dl ds : IVec S1x2080 32} {f : Vec F S16x2080 .f32} : RowsDone X dl ds 0 0 f :=
  fun _ h => absurd h (by omega)

/-- All 130 blocks done: the scratch holds the normalized rows. -/
theorem rows_done {X : Vec F S16x2080 .f32} {dl ds : IVec S1x2080 32} {f : Vec F S16x2080 .f32} (h : RowsDone X dl ds k0_t2_loop.trips 0 f) :
    ∀ j, f j = cell (n := 16) X dl ds j := fun j => h j (.inl (show (j 1).val < 16 * 130 from (j 1).isLt))

/-- One trip: chunk `t` fetched, normalized and written out. -/
theorem trip_step (hpre : PreOK m) (q : PosShare TreeShare) (O : CellTallies nD τ sig (HIx 1)) (W : Waits sig (HIx 1)) (t : Fin k0_t1_loop.trips)
    {h2 h3 h4 h5 h6 h7 h8 h9} :
    inv1 m d L q O W t.val ⟨⟩
      ⊢ wp frame (wpE (defs₀ (F := F)) 𝒱₀ (V d (cV L) (jV L)) none) Set.univ
          (k0_t1_body (F := F) L xW h2 dlW h3 dsW h4 oW h5 sX h6 sO h7 sDl h8 sDs h9 cc0_scoped0 cc0_scoped1 cc0_scoped2 cc0_scoped3 t ⟨⟩)
          fun u => inv1 m d L q O W (t.val + 1) u := by
  unfold k0_t1_body inv1
  rw [SparseCore.bigSep_erase' (Finset.mem_univ t), SparseCore.bigSep_erase' (Finset.mem_univ t)]
  iintro ⟨Hmw, Hx, ⟨%fx, HX⟩, ⟨%fo, HO⟩, Hdl, Hds, Hs2, Hs3, ⟨Hc, Hcs⟩, %W', %hW', Hw⟩
  ihave Hc' := (Entails.of_eq ((chunkAt_before m d L t).trans (pts_oRow d L t (m (oLoc d))).symm)) $$ Hc
  sl_exec (disch := exact View.amount_pos _ _ (show 0 < S16x2080.numel by decide))
  rw [show (sX).view.write (Elt F) fx (trip_step.sl.dma0 m d L t) Finset.univ = fetched m d L t from fetch_lands m d L t fx]
  sl_for (inv2 m d L t) $$ [HX HO Hdl Hds]
  case region =>
    intro g _
    unfold inv2
    iintro ⟨HR, Hdl, Hds⟩
    iapply (block_step d L (fun j => (hpre d j).1) (fun j => (hpre d j).2) g)
    isplitl [HR]; · iexact HR
    isplitl [Hdl]; · iexact Hdl
    isplitl [Hds]; · iexact Hds
    iintro HR Hdl Hds
    isplitl [HR]; · iexact HR
    isplitl [Hdl] <;> iassumption
  · unfold inv2 Rows
    isplitl [HX HO]
    · iexists fo
      isplitr; · ipureintro; exact rows_none
      isplitl [HX] <;> iassumption
    isplitl [Hdl] <;> iassumption
  iintro %_ HI
  unfold inv2 Rows
  icases HI with ⟨⟨%f, %hf, HX, HO⟩, Hdl, Hds⟩
  sl_exec (disch := exact View.amount_pos _ _ (show 0 < S16x2080.numel by decide))
  sl_step
  rw [chunkAt_after, chunkAt_other]
  isplitl [Hmw]; · iexact Hmw
  isplitl [Hx]; · iexact Hx
  isplitl [HX]; · iexists _; iexact HX
  isplitl [HO]; · iexists _; iexact HO
  isplitl [Hdl]; · iexact Hdl
  isplitl [Hds]; · iexact Hds
  isplitl [Hs2]; · iexact Hs2
  isplitl [Hs3]; · iexact Hs3
  isplitl [Hc' Hcs]
  · isplitl [Hc']
    · iapply (write_lands m d L t _ f (rows_done hf)); iexact Hc'
    · iexact Hcs
  iexists (insert (SemLoc.dma cc0_scoped3.sem, (default : HIx 1)) (insert (SemLoc.dma cc0_scoped2.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact Hw

/-! ## The tile's own semaphores and scratches -/

/-- The tile's semaphores at zero: its four transfer semaphores and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase
              (cell3 d (cV L) (jV L))) fun g => semVal g 0) := by
  have hm : ∀ x : DmaSem sig, (SemLoc.dma x : SemLoc sig).isScoped .scVector = true →
      ((V d (cV L) (jV L), SemLoc.dma x) : GSem nD τ sig) ∈ ownCells (V d (cV L) (jV L)) := fun x hx => mem_ownCells.mpr ⟨rfl, hx⟩
  have hne : ∀ x y : DmaSem sig, x ≠ y → ((V d (cV L) (jV L), SemLoc.dma x) : GSem nD τ sig) ≠ (V d (cV L) (jV L), SemLoc.dma y) :=
    fun x y h e => h (SemLoc.dma.inj (Prod.mk.inj e).2)
  unfold SparseCore.Cfg.ownSems0
  rw [SparseCore.bigSep_erase' (hm cc0_scoped0.sem (by decide)),
    SparseCore.bigSep_erase' (Finset.mem_erase.mpr ⟨hne cc0_scoped1.sem _ (by decide), hm cc0_scoped1.sem (by decide)⟩),
    SparseCore.bigSep_erase' (Finset.mem_erase.mpr ⟨hne cc0_scoped2.sem _ (by decide), Finset.mem_erase.mpr ⟨hne cc0_scoped2.sem _ (by decide), hm cc0_scoped2.sem (by decide)⟩⟩),
    SparseCore.bigSep_erase' (Finset.mem_erase.mpr ⟨hne cc0_scoped3.sem _ (by decide), Finset.mem_erase.mpr ⟨hne cc0_scoped3.sem _ (by decide),
      Finset.mem_erase.mpr ⟨hne cc0_scoped3.sem _ (by decide), hm cc0_scoped3.sem (by decide)⟩⟩⟩)]

/-- The tile's buffer `b`, as its device names it. -/
abbrev bufV (b : Ref sig .scVector) : DevRef τ sig := (Proc.scVector (cV L) (jV L)).devRef b

/-- The tile's buffers: its four scratches and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (bufV L cc0_scratch0)).erase (bufV L cc0_scratch1)).erase
              (bufV L cc0_scratch2)).erase (bufV L cc0_scratch3)) fun b => iprop(∃ f, ((d, b) : Loc nD τ sig) ↦{fullShare} f)) := by
  have hne : ∀ x y : Ref sig .scVector, x ≠ y → bufV L x ≠ bufV L y := fun x y h e => h (Proc.devRef_injective _ e)
  have hm : ∀ x : Ref sig .scVector, (bufV L x).owner = .proc (Proc.scVector (cV L) (jV L)) → bufV L x ∈ ownRefs (τ := τ) (.scVector (cV L) (jV L)) :=
    fun x h => SparseCore.Cfg.mem_ownRefs_of_owner (p := Proc.scVector (cV L) (jV L)) h
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide), Finset.mem_erase.mpr ⟨hne cc0_scratch2 cc0_scratch0 (by decide), hm cc0_scratch2 rfl⟩⟩),
    SparseCore.bigSep_erase' (Finset.mem_erase.mpr ⟨hne cc0_scratch3 cc0_scratch2 (by decide), Finset.mem_erase.mpr ⟨hne cc0_scratch3 cc0_scratch1 (by decide),
      Finset.mem_erase.mpr ⟨hne cc0_scratch3 cc0_scratch0 (by decide), hm cc0_scratch3 rfl⟩⟩⟩)]

/-! ## The task -/

/-- What a tile is handed and hands back: a share of the three inputs, and its 32 chunks of the result, which hold `f`. -/
def tileRes (c : Fin 2) (i : Fin 16) (f : Buf (Elt F) (oLoc d)) : sProp 𝕄 :=
  iprop((xLoc d ↦{Transfers.shareTok fullShare 32 (finProdFinEquiv (c, i))} m (xLoc d))
    ∗ (dlLoc d ↦{Transfers.shareTok fullShare 32 (finProdFinEquiv (c, i))} m (dlLoc d))
    ∗ (dsLoc d ↦{Transfers.shareTok fullShare 32 (finProdFinEquiv (c, i))} m (dsLoc d))
    ∗ bigSep Finset.univ fun t : Fin 32 => oLoc d ↦[(chunk c i t).set]{fullShare} f)

/-- Before the first trip every chunk is as the launch left it. -/
theorem chunkAt_first : (bigSep Finset.univ fun t => chunkAt m d L 0 t : sProp 𝕄)
    = bigSep Finset.univ fun t : Fin 32 => oLoc d ↦[(chunk (L 0) (L 1) t).set]{fullShare} m (oLoc d) :=
  bigSep_congr fun _ _ => if_neg (Nat.not_lt_zero _)

/-- After the last trip every chunk holds the result. -/
theorem chunkAt_last : (bigSep Finset.univ fun t => chunkAt m d L k0_t1_loop.trips t : sProp 𝕄)
    = bigSep Finset.univ fun t : Fin 32 => oLoc d ↦[(chunk (L 0) (L 1) t).set]{fullShare} OUT m d :=
  bigSep_congr fun t _ => if_pos t.isLt

/-- After the last trip: every chunk at the result, the wait evidence dropped. -/
theorem inv1_last (q : PosShare TreeShare) (O : CellTallies nD τ sig (HIx 1)) (W : Waits sig (HIx 1)) {u : Unit} :
    inv1 m d L q O W k0_t1_loop.trips u ⊢ iprop(((xW).view.loc (V d (cV L) (jV L)) ↦{q} m (xLoc d))
      ∗ (∃ f, (sX).view.loc (V d (cV L) (jV L)) ↦{fullShare} f) ∗ (∃ f, (sO).view.loc (V d (cV L) (jV L)) ↦{fullShare} f)
      ∗ ((sDl).view.loc (V d (cV L) (jV L)) ↦{fullShare} m (dlLoc d)) ∗ ((sDs).view.loc (V d (cV L) (jV L)) ↦{fullShare} m (dsLoc d))
      ∗ semVal (cell2 d (cV L) (jV L)) 0 ∗ semVal (cell3 d (cV L) (jV L)) 0
      ∗ (bigSep Finset.univ fun t : Fin 32 => oLoc d ↦[(chunk (L 0) (L 1) t).set]{fullShare} OUT m d)
      ∗ ∃ W', ⌜∀ p ∈ W', p ∈ W ∨ p.2 = none⌝ ∗ owes (V d (cV L) (jV L)) O W') := by
  unfold inv1
  rw [chunkAt_last]
  iintro ⟨-, H⟩
  iexact H

/-- An index row's fetch leaves the row in the scratch. -/
theorem index_lands (b : Ref sig .scVector) (f g : b.ty.Contents (Elt F)) :
    (View.whole b).write (Elt F) f ((View.whole b).read (Elt F) g) Finset.univ = g := by
  rw [View.read_whole]; exact View.write_whole_univ _ _ _

/-- The task on tile `(L 0, L 1)` of device `d`: from its resources at the launch to its chunks at the result. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d (L 0) (L 1) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L xW (Memref.isWhole_whole _) dlW (Memref.isWhole_whole _) dsW (Memref.isWhole_whole _) oW (Memref.isWhole_whole _)
            sX (Memref.isWhole_whole _) sO (Memref.isWhole_whole _) sDl (Memref.isWhole_whole _) sDs (Memref.isWhole_whole _)
            cc0_scoped0 cc0_scoped1 cc0_scoped2 cc0_scoped3)
          fun _ => iprop(tileRes m d (L 0) (L 1) (OUT m d) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__body_eq_skeleton]; unfold cc0__body_skel tileRes
  rw [(K (F := F)).scopedBufs_V hF d (cV L) (jV L), SparseCore.Cfg.scopedSems0_V (Val := Elt F) d (cV L) (jV L), ownSems0_V, ownBufs_V]
  iintro ⟨#Hlv, -, ⟨Hx, Hl, Hs, Ho⟩, ⟨⟨%fx, HX⟩, ⟨%fo, HO⟩, ⟨%fl, Hdl⟩, ⟨%fs, Hds⟩, Hbufs⟩, ⟨Hs0, Hs1, Hs2, Hs3, Hsems⟩, Hw⟩
  ihave Hmw := ((K (F := F)).mayWaits_none (thr := V d (cV L) (jV L)) hO) $$ Hlv
  ihave Hx := (Entails.of_eq (show (xLoc d ↦{_} m (xLoc d) : sProp 𝕄) = ((xW).view.loc (V d (cV L) (jV L)) ↦{_} m (xLoc d)) from rfl)) $$ Hx
  ihave Hl := (Entails.of_eq (show (dlLoc d ↦{_} m (dlLoc d) : sProp 𝕄) = ((dlW).view.loc (V d (cV L) (jV L)) ↦{_} m (dlLoc d)) from rfl)) $$ Hl
  ihave Hs := (Entails.of_eq (show (dsLoc d ↦{_} m (dsLoc d) : sProp 𝕄) = ((dsW).view.loc (V d (cV L) (jV L)) ↦{_} m (dsLoc d)) from rfl)) $$ Hs
  ihave Hdl := (Entails.of_eq (show ((V d (cV L) (jV L)).loc cc0_scratch2 ↦{fullShare} fl : sProp 𝕄) = ((sDl).view.loc (V d (cV L) (jV L)) ↦{fullShare} fl) from rfl)) $$ Hdl
  ihave Hds := (Entails.of_eq (show ((V d (cV L) (jV L)).loc cc0_scratch3 ↦{fullShare} fs : sProp 𝕄) = ((sDs).view.loc (V d (cV L) (jV L)) ↦{fullShare} fs) from rfl)) $$ Hds
  sl_exec
  rw [show (sDl).view.write (Elt F) fl (tile_body.sl.dma0 m d) Finset.univ = m (dlLoc d) from index_lands cc0_scratch2 fl (m (dlLoc d)),
    show (sDs).view.write (Elt F) fs (tile_body.sl.dma0_1 m d) Finset.univ = m (dsLoc d) from index_lands cc0_scratch3 fs (m (dsLoc d))]
  sl_for (inv1 m d L (Transfers.shareTok fullShare 32 (finProdFinEquiv (L 0, L 1))) O W) $$ [Hmw Hx HX HO Hdl Hds Hs2 Hs3 Ho Hw]
  case region =>
    intro t _
    exact trip_step m d L hpre _ O W t
  · unfold inv1
    rw [chunkAt_first]
    isplitl [Hmw]; · iexact Hmw
    isplitl [Hx]; · iexact Hx
    isplitl [HX]; · iexists _; iexact HX
    isplitl [HO]; · iexists _; iexact HO
    isplitl [Hdl]; · iexact Hdl
    isplitl [Hds]; · iexact Hds
    isplitl [Hs2]; · iexact Hs2
    isplitl [Hs3]; · iexact Hs3
    isplitl [Ho]; · iexact Ho
    iexists (insert (SemLoc.dma cc0_scoped1.sem, (default : HIx 1)) (insert (SemLoc.dma cc0_scoped0.sem, (default : HIx 1)) W)); isplitr
    · ipureintro; intro p hp
      rcases Finset.mem_insert.mp hp with hp | hp
      · exact .inr (hp ▸ rfl)
      rcases Finset.mem_insert.mp hp with hp | hp
      · exact .inr (hp ▸ rfl)
      · exact .inl hp
    · iexact Hw
  iintro %_ HI
  ihave HI' := (inv1_last m d L _ O W) $$ HI
  icases HI' with ⟨Hx, ⟨%gx, HX⟩, ⟨%go, HO⟩, Hdl, Hds, Hs2, Hs3, Ho, Hw⟩
  sl_exec
  sl_step
  isplitl [Hx Hl Hs Ho]
  · isplitl [Hx]; · iexact Hx
    isplitl [Hl]; · iexact Hl
    isplitl [Hs]; · iexact Hs
    iexact Ho
  isplitl [HX HO Hdl Hds Hbufs]
  · isplitl [HX]; · iexists _; iexact HX
    isplitl [HO]; · iexists _; iexact HO
    isplitl [Hdl]; · iexists _; iexact Hdl
    isplitl [Hds]; · iexists _; iexact Hds
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact Hw

end Tile

end Cert.Proof.KernelIdeal

end
-- ==== Proof.Ideal.Launch.lean ====
/-
  The launch: what the call hands the tiles, @main on the TensorCore, and the whole run's result.
-/
module

public import proofs.«01_k».proof.Proof.Ideal.Tile

@[expose] public section

noncomputable section

namespace Cert.Proof.KernelIdeal

open Cert.KernelIdeal Cert.KernelIdeal.Gen

open Idealize.ShloMosaic
open Idealize.ShloMosaic.ValueIdx (ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S16384x2080 EltTy.f32)
local notation "dlW" => (Memref.whole Cert.KernelIdeal.main_arg1_scv : Memref Cert.KernelIdeal.sig Kind.scVector Space.hbm Cert.KernelIdeal.S1x2080 EltTy.i32)
local notation "dsW" => (Memref.whole Cert.KernelIdeal.main_arg2_scv : Memref Cert.KernelIdeal.sig Kind.scVector Space.hbm Cert.KernelIdeal.S1x2080 EltTy.i32)
local notation "oW" => (Memref.whole Cert.KernelIdeal.main_v0_scv : Memref Cert.KernelIdeal.sig Kind.scVector Space.hbm Cert.KernelIdeal.S16384x2080 EltTy.f32)
local notation "sX" => (Memref.whole Cert.KernelIdeal.cc0_scratch0 : Memref Cert.KernelIdeal.sig Kind.scVector Space.vmem Cert.KernelIdeal.S16x2080 EltTy.f32)
local notation "sO" => (Memref.whole Cert.KernelIdeal.cc0_scratch1 : Memref Cert.KernelIdeal.sig Kind.scVector Space.vmem Cert.KernelIdeal.S16x2080 EltTy.f32)
local notation "sDl" => (Memref.whole Cert.KernelIdeal.cc0_scratch2 : Memref Cert.KernelIdeal.sig Kind.scVector Space.vmem Cert.KernelIdeal.S1x2080 EltTy.i32)
local notation "sDs" => (Memref.whole Cert.KernelIdeal.cc0_scratch3 : Memref Cert.KernelIdeal.sig Kind.scVector Space.vmem Cert.KernelIdeal.S1x2080 EltTy.i32)

variable (m : (ℓ : Loc nD τ sig) → Buf (Elt F) ℓ) (ρ : Dev nD → PrngReg)

/-! ## What the call hands over -/

/-- The handshakes' semaphores are distinct and unscoped, as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The call runs on 2 SparseCores. -/
theorem nCore_zero : (K (F := F)).nCore 0 = 2 := rfl
/-- The call runs on 16 tiles of each. -/
theorem nSub_zero : (K (F := F)).nSub 0 = 16 := rfl

/-- What a SparseCore is handed and hands back: what its 16 tiles are. -/
def coreRes (d : Dev nD) (c : Fin 2) (f : Buf (Elt F) (oLoc d)) : sProp 𝕄 := bigSep Finset.univ fun i : Fin 16 => tileRes m d c i f

instance tileRes_storable (d : Dev nD) (c : Fin 2) (i : Fin 16) (f : Buf (Elt F) (oLoc d)) : BI.Storable (upEmb : UEmb _ 𝕄) (tileRes m d c i f) := by
  unfold tileRes; infer_instance
instance coreRes_storable (d : Dev nD) (c : Fin 2) (f : Buf (Elt F) (oLoc d)) : BI.Storable (upEmb : UEmb _ 𝕄) (coreRes m d c f) := by
  unfold coreRes; infer_instance

/-- The one call's payloads: the chunks go out as the launch left them and come back at the result. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (OUT m d)
  go := fun q d c i => match q with | 0 => tileRes m d (Fin.cast nCore_zero c) (Fin.cast nSub_zero i) (m (oLoc d))
  td := fun q d c i => match q with | 0 => tileRes m d (Fin.cast nCore_zero c) (Fin.cast nSub_zero i) (OUT m d)
  x := fun _ _ => iprop(emp)

instance P_storable : (P (F := F) m).IsStorable where
  st q d c := match q with | 0 => coreRes_storable m d _ _
  dn q d c := match q with | 0 => coreRes_storable m d _ _
  go q d c i := match q with | 0 => tileRes_storable m d _ _ _
  td q d c i := match q with | 0 => tileRes_storable m d _ _ _

/-! ## The launch theorem's obligations -/

/-- The grid position of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's task is the kernel's body at its grid position. -/
theorem defs₀_vector (c : Fin τ.nSC) (s : Fin τ.nSub) :
    defs₀ (F := F) (.scVector c s) 0 ()
      = SparseCore.onTile hcore0 hsub0 (fun c s => cc0__body (coordsV c s)
          xW (Memref.isWhole_whole _) dlW (Memref.isWhole_whole _) dsW (Memref.isWhole_whole _) oW (Memref.isWhole_whole _)
          sX (Memref.isWhole_whole _) sO (Memref.isWhole_whole _) sDl (Memref.isWhole_whole _) sDs (Memref.isWhole_whole _)
          cc0_scoped0 cc0_scoped1 cc0_scoped2 cc0_scoped3) ⟨⟩ c s := rfl

/-- What the task leaves, weakened to what the launch theorem asks of its waits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task takes what the tile is handed to what it hands back. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-- A SparseCore's resources are its tiles', before and after. -/
theorem vecSplit : (K (F := F)).VecSplit' (P m) 0 := by
  intro d c
  show coreRes m d (Fin.cast nCore_zero c) (m (oLoc d)) ⊢ |={Set.univ}=> iprop(coreRes m d (Fin.cast nCore_zero c) (m (oLoc d))
      ∗ (coreRes m d (Fin.cast nCore_zero c) (OUT m d) -∗ coreRes m d (Fin.cast nCore_zero c) (OUT m d)))
  iintro H; imodintro
  isplitl [H]; · iexact H
  iintro H; iexact H

/-! ## The launch element -/

/-- The ghost state at the launch: the handshakes' rounds, and no counter. -/
def u₀ : UU := (initOf (K (F := F)).hsCells (K (F := F)).hsToks, 1)

/-- Nothing for each of a set's members is nothing. -/
theorem nothing_each {I : Type} (s : Finset I) : (bigSep s fun _ => iprop(emp)) = (iprop(emp) : sProp 𝕄) := bigSep_emp_const s

/-- The ghost state at the launch gives the handshakes theirs; the kernel needs none. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing_each]; iempintro
  unfold P; dsimp only
  rw [show (bigSep Finset.univ fun _ : Thread nD τ => bigSep Finset.univ fun _ : Fin 1 => (iprop(emp) : sProp 𝕄)) = iprop(emp) from by
    rw [bigSep_congr fun _ _ => nothing_each _, nothing_each]]
  iempintro

/-! ## The arrays dealt to the tiles and gathered back -/

/-- An input held whole is the 32 tiles' shares of it and a remainder. -/
theorem input_shares (ℓ : Loc nD τ sig) (g : Buf (Elt F) ℓ) :
    (ℓ ↦{fullShare} g : sProp 𝕄) ⊣⊢ iprop((ℓ ↦{Transfers.shareDrop fullShare 32} g)
      ∗ bigSep Finset.univ fun c : Fin 2 => bigSep Finset.univ fun i : Fin 16 => ℓ ↦{Transfers.shareTok fullShare 32 (finProdFinEquiv (c, i))} g) := by
  have e : (bigSep Finset.univ fun n : Fin 32 => (ℓ ↦{Transfers.shareTok fullShare 32 n} g : sProp 𝕄))
      = bigSep Finset.univ fun c : Fin 2 => bigSep Finset.univ fun i : Fin 16 => ℓ ↦{Transfers.shareTok fullShare 32 (finProdFinEquiv (c, i))} g := by
    rw [bigSep_univ_equiv (finProdFinEquiv (m := 2) (n := 16)), bigSep_univ_prod]
  rw [← e]
  exact ⟨Transfers.pointsTo_toks_split _ _, Transfers.pointsTo_toks_join _ _⟩

/-- What stays on the TensorCore during the call. -/
def restRes (d : Dev nD) : sProp 𝕄 :=
  iprop((xLoc d ↦{Transfers.shareDrop fullShare 32} m (xLoc d)) ∗ (dlLoc d ↦{Transfers.shareDrop fullShare 32} m (dlLoc d))
    ∗ (dsLoc d ↦{Transfers.shareDrop fullShare 32} m (dsLoc d)))

/-- The four arrays held whole, the result at `f`. -/
def arrays (d : Dev nD) (f : Buf (Elt F) (oLoc d)) : sProp 𝕄 :=
  iprop((xLoc d ↦{fullShare} m (xLoc d)) ∗ (dlLoc d ↦{fullShare} m (dlLoc d)) ∗ (dsLoc d ↦{fullShare} m (dsLoc d)) ∗ oLoc d ↦{fullShare} f)

/-- What both SparseCores are handed: every tile's share of the three inputs, and the result whole. -/
theorem cores_eq (d : Dev nD) (f : Buf (Elt F) (oLoc d)) :
    (bigSep Finset.univ fun c : Fin 2 => coreRes m d c f)
      = iprop((bigSep Finset.univ fun c : Fin 2 => bigSep Finset.univ fun i : Fin 16 => xLoc d ↦{Transfers.shareTok fullShare 32 (finProdFinEquiv (c, i))} m (xLoc d))
        ∗ (bigSep Finset.univ fun c : Fin 2 => bigSep Finset.univ fun i : Fin 16 => dlLoc d ↦{Transfers.shareTok fullShare 32 (finProdFinEquiv (c, i))} m (dlLoc d))
        ∗ (bigSep Finset.univ fun c : Fin 2 => bigSep Finset.univ fun i : Fin 16 => dsLoc d ↦{Transfers.shareTok fullShare 32 (finProdFinEquiv (c, i))} m (dsLoc d))
        ∗ oLoc d ↦{fullShare} f) := by
  unfold coreRes tileRes
  simp only [bigSep_sep', whole_chunks]

/-- The arrays held whole are dealt to the two SparseCores, a remainder staying behind. -/
theorem deal (d : Dev nD) (f : Buf (Elt F) (oLoc d)) : arrays m d f ⊢ iprop(restRes m d ∗ bigSep Finset.univ fun c : Fin 2 => coreRes m d c f) := by
  rw [cores_eq]; unfold arrays restRes
  iintro ⟨Hx, Hl, Hs, Ho⟩
  ihave Hx' := (input_shares (F := F) (xLoc d) _).1 $$ Hx
  ihave Hl' := (input_shares (F := F) (dlLoc d) _).1 $$ Hl
  ihave Hs' := (input_shares (F := F) (dsLoc d) _).1 $$ Hs
  icases Hx' with ⟨Hx, Hxs⟩
  icases Hl' with ⟨Hl, Hls⟩
  icases Hs' with ⟨Hs, Hss⟩
  isplitl [Hx Hl Hs]
  · isplitl [Hx]; · iexact Hx
    isplitl [Hl] <;> iassumption
  isplitl [Hxs]; · iexact Hxs
  isplitl [Hls]; · iexact Hls
  isplitl [Hss] <;> iassumption

/-- The remainder and what the two SparseCores hold are the arrays whole again. -/
theorem undeal (d : Dev nD) (f : Buf (Elt F) (oLoc d)) : iprop(restRes m d ∗ bigSep Finset.univ fun c : Fin 2 => coreRes m d c f) ⊢ arrays m d f := by
  rw [cores_eq]; unfold arrays restRes
  iintro ⟨⟨Hx, Hl, Hs⟩, Hxs, Hls, Hss, Ho⟩
  isplitl [Hx Hxs]
  · iapply (input_shares (F := F) (xLoc d) _).2; isplitl [Hx] <;> iassumption
  isplitl [Hl Hls]
  · iapply (input_shares (F := F) (dlLoc d) _).2; isplitl [Hl] <;> iassumption
  isplitl [Hs Hss]
  · iapply (input_shares (F := F) (dsLoc d) _).2; isplitl [Hs] <;> iassumption
  iexact Ho

/-! ## @main on the TensorCore -/

/-- The TensorCore's unscoped buffers at the launch are the four arrays. -/
theorem unscopedBufs_eq (d : Dev nD) : (unscopedBufs d (fun b => m ((SparseCore.T d).loc b)) : sProp 𝕄) = arrays m d (m (oLoc d)) := by
  unfold unscopedBufs arrays
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- What the call hands out. -/
theorem st0_eq (d : Dev nD) : (bigSep Finset.univ fun c : Fin ((K (F := F)).nCore 0) => (P m).st 0 d c)
    = bigSep Finset.univ fun c : Fin 2 => coreRes m d c (m (oLoc d)) := rfl
/-- What the call hands back. -/
theorem dn0_eq (d : Dev nD) : (bigSep Finset.univ fun c : Fin ((K (F := F)).nCore 0) => (P m).dn 0 d c)
    = bigSep Finset.univ fun c : Fin 2 => coreRes m d c (OUT m d) := rfl

/-- @main on device `d`'s TensorCore: the one call; the arrays end whole, the result at `OUT`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ arrays m d (OUT m d) ∗ (K (F := F)).tcEnd d) := by
  unfold SparseCore.Cfg.tcRes SparseCore.Cfg.tcEnd
  rw [unscopedBufs_eq]
  simp only [main, wp_bind, wp_pure]
  iintro ⟨#Hctx, Hst, ⟨Hb, Ha, Hts, -⟩, -⟩
  ihave Ha' := (deal m d _) $$ Ha
  icases Ha' with ⟨Hrest, Hcores⟩
  iapply ((K (F := F)).wp_run (D (F := F)) 𝒱 (EH := EH) (P := P m) κ d 0) $$ [Hst Hrest Hcores Hb Hts]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  imodintro
  isplitl [Hst]; · iexact Hst
  isplitr [Hb Hts]
  · iapply (undeal m d _); isplitl [Hrest] <;> iassumption
  isplitl [Hb] <;> iassumption

/-- What a final state says of device `d`: the arguments unchanged, the result at `OUT`. -/
def fq (d : Dev nD) (s' : Phys nD τ sig (Elt F)) : Prop :=
  s'.mem.mem (xLoc d) = m (xLoc d) ∧ s'.mem.mem (dlLoc d) = m (dlLoc d) ∧ s'.mem.mem (dsLoc d) = m (dsLoc d) ∧ s'.mem.mem (oLoc d) = OUT m d

/-- Holding the arrays at the end fixes what a final state's memory says of them. -/
theorem hfin (d : Dev nD) (s' : Phys nD τ sig (Elt F)) : iprop(arrays m d (OUT m d) ∗ SI s') ⊢ (⌜fq m d s'⌝ : sProp 𝕄) := by
  unfold arrays
  iintro ⟨⟨Hx, Hl, Hs, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := dlLoc d) (I := Finset.univ) (q := fullShare) (f := m (dlLoc d)))) $$ [HSI Hl]
  · isplitl [HSI] <;> iassumption
  icases H with ⟨%h2, HSI, -⟩
  ihave H := (persistent_entails_right (SI_pointsTo_agree (st := s') (ℓ := dsLoc d) (I := Finset.univ) (q := fullShare) (f := m (dsLoc d)))) $$ [HSI Hs]
  · isplitl [HSI] <;> iassumption
  icases H with ⟨%h3, HSI, -⟩
  ihave H := (SI_pointsTo_agree (st := s') (ℓ := oLoc d) (I := Finset.univ) (q := fullShare) (f := OUT m d)) $$ [HSI Ho]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

/-- The run's post: on every device the arguments unchanged and the result at `OUT`; every counter at zero. -/
def QC : PUnit × MemSt nD τ sig (Elt F) → Prop := fun r =>
  (∀ c : Dev nD, r.2.mem (xLoc c) = m (xLoc c) ∧ r.2.mem (dlLoc c) = m (dlLoc c) ∧ r.2.mem (dsLoc c) = m (dsLoc c) ∧ r.2.mem (oLoc c) = OUT m c)
    ∧ r.2.sem = fun _ => 0

/-- The program runs from a launch memory whose index entries are −1 or columns, and ends as `QC` says. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => arrays m d (OUT m d)) (u₀ (F := F)) (sep_elim_left.trans (hu₀ m)) (hmain m ρ) (fq m) (hfin m) (QC m) (fun _ h hz => ⟨h, hz⟩)

end Cert.Proof.KernelIdeal

end
-- ==== Proof.Pre.lean ====
/-
  What the stated precondition says of the launch memory: every entry of the two index rows is −1 or a column.
-/
module

public import Idealize.ShloMosaic.Lib.ReduceAll
public import Idealize.ShloMosaic.Lib.WordCmp
public import proofs.«01_k».proof.Proof.Float.Launch
public import proofs.«01_k».proof.Proof.Gen.Pre_dims_in_range

@[expose] public section

noncomputable section

namespace Cert.Proof.Pre

open Idealize.ShloMosaic

/-- Two bits whose conjunction is 1 are both 1. -/
theorem bits_of_and {a b : BitVec 1} (h : IntOp.andi a b = 1#1) : a = 1#1 ∧ b = 1#1 := by
  revert a b; decide

/-- A word the predicate's two comparisons accept, read signed: at least −1 and below 2080. -/
theorem range_of_cmps {w : BitVec 32} (hlo : IntOp.cmpi .sge w 4294967295#32 = 1#1) (hhi : IntOp.cmpi .slt w 2080#32 = 1#1) :
    -1 ≤ w.toInt ∧ w.toInt < 2080 := by
  rw [WordCmp.cmpi_sge_eq, WordCmp.ofBool_decide_eq_one_iff] at hlo
  rw [WordCmp.cmpi_slt_eq, WordCmp.ofBool_decide_eq_one_iff] at hhi
  exact ⟨hlo, hhi⟩

variable {F : FTy → Type} [FloatOps F]

open Cert.Pre_dims_in_range in
/-- The predicate's one result is 1 only where both index rows' every entry lies in [−1, 2080). -/
theorem ranges_of_fn [Cert.Pre_dims_in_range.Facts] (x : FVec F S16384x2080 .f32) (dl ds : IVec S1x2080 32)
    (h : fn (F := F) x dl ds = fun _ => 1#1) (j : S1x2080.Idx) :
    (-1 ≤ (dl j).toInt ∧ (dl j).toInt < 2080) ∧ -1 ≤ (ds j).toInt ∧ (ds j).toInt < 2080 := by
  haveI : Subsingleton S_.Idx := ⟨fun a b => funext fun i => i.elim0⟩
  have e := congrFun h (fun i => i.elim0)
  obtain ⟨e, hdsHi⟩ := bits_of_and e
  obtain ⟨e, hdsLo⟩ := bits_of_and e
  obtain ⟨hdlLo, hdlHi⟩ := bits_of_and e
  exact ⟨range_of_cmps (Host.reduce_andi_all _ _ _ _ _ hdlLo j) (Host.reduce_andi_all _ _ _ _ _ hdlHi j),
    range_of_cmps (Host.reduce_andi_all _ _ _ _ _ hdsLo j) (Host.reduce_andi_all _ _ _ _ _ hdsHi j)⟩

/-- The precondition gives the floating-point program's proof what it asks of the launch memory. -/
theorem ok_float [Cert.Pre_dims_in_range.Facts]
    (m : (ℓ : Loc Cert.Kernel.nD Cert.Kernel.τ Cert.Kernel.sig) → Buf (Elt Bits) ℓ) (h : Cert.Pre_Kernel m) :
    Cert.Proof.Kernel.PreOK m :=
  fun d j => ranges_of_fn _ _ _ (h d) j

/-- The precondition gives the idealized program's proof what it asks of the launch memory. -/
theorem ok_ideal [Cert.Pre_dims_in_range.Facts]
    (m : (ℓ : Loc Cert.KernelIdeal.nD Cert.KernelIdeal.τ Cert.KernelIdeal.sig) → Buf (Elt Ideal) ℓ) (h : Cert.Pre_KernelIdeal m) :
    Cert.Proof.KernelIdeal.PreOK m :=
  fun d j => ranges_of_fn _ _ _ (h d) j

end Cert.Proof.Pre

end
-- ==== Proof.Ref.lean ====
/-
  What the reference computes: under the precondition, element by element, the kernel's own normalization.
-/
module

public import Idealize.ShloMosaic.Lib.ValueLayout
public import Idealize.ShloMosaic.Lib.WordCmp
public import proofs.«01_k».proof.Proof.Float.Launch
public import proofs.«01_k».proof.Proof.Gen.ReferenceIdeal
public import proofs.«01_k».proof.Proof.Gen.ReferenceIdeal.Run

@[expose] public section

noncomputable section

namespace Cert.Proof.Ref

open Cert.ReferenceIdeal Cert.ReferenceIdeal.Facts₀
open Idealize.ShloMosaic Idealize.SL.Sem
open Idealize.ShloMosaic.ValueIdx (ix1 ix2 eq_ix2)
open Cert.Proof.KernelIdeal (InRange col norm cell)

local notation "colDims" => gather_S16384x2080_S2080x1_S16384x2080_0_1_n_n_1_1_163841

/-- The column gather read at row `r`, column `c`: the operand's row `r` at the column the start index of `c` names, if
    it names one. -/
theorem gather_col {α : Type} (x : S16384x2080.Idx → α) (idx : IVec S2080x1 32) (r : Fin 16384) (c b : Fin 2080)
    (hb : (idx (ix2 c (0 : Fin 1))).toInt = b.val) : Host.gather colDims x idx (ix2 r c) = x (ix2 r b) := by
  unfold Host.gather
  refine congrArg x (funext fun a => Fin.ext ?_)
  show GatherDims.start colDims (ix2 r c) idx a + GatherDims.batchCoord colDims (ix2 r c) a
    + GatherDims.offCoord colDims (ix2 r c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (show (0 : Fin 2) ∉ GatherDims.startIndexMap colDims by decide),
      dif_pos (show (0 : Fin 2) ∈ GatherDims.sKept colDims from (GatherDims.mem_sKept _ _).2 ⟨by decide, List.not_mem_nil⟩),
      Nat.zero_add]
    rfl
  · have hm : (1 : Fin 2) ∈ GatherDims.startIndexMap colDims := List.mem_singleton.mpr rfl
    rw [GatherDims.offCoord_eq_zero _ _ _ (fun h => ((GatherDims.mem_sKept _ _).mp h).1 (List.mem_singleton.mpr rfl))]
    unfold GatherDims.start
    rw [dif_pos hm]
    have hsi : GatherDims.siIdx colDims (ix2 r c) ⟨List.idxOf (1 : Fin 2) (GatherDims.startIndexMap colDims),
        List.idxOf_lt_length_iff.2 hm⟩ = ix2 c (0 : Fin 1) := by
      funext b'; refine Fin.ext ?_
      match b' with
      | ⟨0, _⟩ => rfl
      | ⟨1, _⟩ => rfl
    have hlt := b.isLt
    rw [hsi, hb]
    show min ((b.val : Int)).toNat (2080 - 1) + 0 + 0 = b.val
    omega

/-- The index column the reference gathers by: a row of indices, 2080 added to the negative ones. -/
def wrapped (dl : S1x2080.Idx → BitVec 32) : IVec S2080x1 32 :=
  broadcastInDim S2080x1 ![0] bcast_S2080_S2080x1_0 (select
    (cmpi .slt (shapeCast _ dl shapeCasts_S1x2080_S2080) (broadcastInDim S2080 ![] bcast_S_S2080 (constantI S_ 32 0#32)))
    (addi (shapeCast _ dl shapeCasts_S1x2080_S2080) (broadcastInDim S2080 ![] bcast_S_S2080 (constantI S_ 32 2080#32)))
    (shapeCast _ dl shapeCasts_S1x2080_S2080))

/-- An index that is not negative is gathered by as it stands. -/
theorem wrapped_eq (dl : S1x2080.Idx → BitVec 32) (c : Fin 2080) (h : (dl (ix2 (0 : Fin 1) c)).slt 0#32 = false) :
    wrapped dl (ix2 c (0 : Fin 1)) = dl (ix2 (0 : Fin 1) c) := by
  unfold wrapped
  rw [broadcastInDim_apply _ _ _ _ (ix1 c) (by intro a; match a with | ⟨0, _⟩ => rfl)]
  have hc : shapeCast S2080 dl shapeCasts_S1x2080_S2080 (ix1 c) = dl (ix2 (0 : Fin 1) c) := ValueIdx.shapeCast_1a_a_apply dl _ c
  show (if IntOp.cmpi .slt (shapeCast S2080 dl shapeCasts_S1x2080_S2080 (ix1 c)) 0#32 = 1#1 then _
    else shapeCast S2080 dl shapeCasts_S1x2080_S2080 (ix1 c)) = _
  rw [hc, if_neg]
  show ¬ BitVec.ofBool ((dl (ix2 (0 : Fin 1) c)).slt 0#32) = 1#1
  rw [h]; decide

/-- One of the reference's two masked gathers: the constant `k` where the index is −1, the gathered column elsewhere. -/
def masked {F : FTy → Type} [FloatOps F] (k : BitVec (FTy.f32).bits) (x : S16384x2080.Idx → F .f32)
    (dl : S1x2080.Idx → BitVec 32) : FVec F S16384x2080 .f32 :=
  select (broadcastInDim S16384x2080 ![0, 1] bcast_S1x2080_S16384x2080_0_1
      (cmpi .eq dl (broadcastInDim S1x2080 ![] bcast_S_S1x2080 (constantI S_ 32 4294967295#32))))
    (broadcastInDim S16384x2080 ![] bcast_S_S16384x2080 (constant S_ .f32 k)) (Host.gather colDims x (wrapped dl))

/-- An index in range is −1 exactly when it is negative. -/
theorem eq_neg_one_iff {w : BitVec 32} (h : InRange w) : w = 4294967295#32 ↔ w.slt 0#32 = true := by
  unfold InRange at h
  rw [BitVec.slt_eq_decide, decide_eq_true_iff, ← BitVec.toInt_inj]
  show w.toInt = -1 ↔ w.toInt < 0
  omega

/-- A column an index names, in numbers. -/
theorem toInt_col {w : BitVec 32} (h : InRange w) (hn : w.slt 0#32 = false) : w.toInt = (col w).val := by
  unfold InRange at h
  rw [BitVec.slt_eq_decide, decide_eq_false_iff_not] at hn
  have hn' : ¬ w.toInt < 0 := hn
  rw [BitVec.toInt_eq_toNat_cond] at h hn' ⊢
  have hlt := w.isLt
  unfold col
  split_ifs at h hn' ⊢ <;> first | rfl | (exfalso; omega)

/-- The masked gather at row `r`, column `c`: the constant at a negative index, the named column's element elsewhere. -/
theorem masked_apply {F : FTy → Type} [FloatOps F] (k : BitVec (FTy.f32).bits) (x : S16384x2080.Idx → F .f32)
    (dl : S1x2080.Idx → BitVec 32) (r : Fin 16384) (c : Fin 2080) (h : InRange (dl (ix2 (0 : Fin 1) c))) :
    masked k x dl (ix2 r c) = if (dl (ix2 (0 : Fin 1) c)).slt 0#32 then FloatOps.ofBits .f32 k
      else x (ix2 r (col (dl (ix2 (0 : Fin 1) c)))) := by
  unfold masked
  show (if broadcastInDim S16384x2080 ![0, 1] bcast_S1x2080_S16384x2080_0_1
      (cmpi .eq dl (broadcastInDim S1x2080 ![] bcast_S_S1x2080 (constantI S_ 32 4294967295#32))) (ix2 r c) = 1#1
    then FloatOps.ofBits .f32 k else Host.gather colDims x (wrapped dl) (ix2 r c)) = _
  rw [broadcastInDim_apply _ _ _ _ (ix2 (0 : Fin 1) c) (by
    intro a
    match a with
    | ⟨0, _⟩ => rfl
    | ⟨1, _⟩ => rfl)]
  show (if IntOp.cmpi .eq (dl (ix2 (0 : Fin 1) c)) 4294967295#32 = 1#1 then _ else _) = _
  have hc : IntOp.cmpi .eq (dl (ix2 (0 : Fin 1) c)) 4294967295#32 = 1#1 ↔ dl (ix2 (0 : Fin 1) c) = 4294967295#32 := by
    rw [WordCmp.cmpi_eq_eq, WordCmp.ofBool_decide_eq_one_iff]
  by_cases hs : (dl (ix2 (0 : Fin 1) c)).slt 0#32 = true
  · rw [if_pos (hc.2 ((eq_neg_one_iff h).2 hs)), if_pos hs]
  · rw [if_neg (fun e => hs ((eq_neg_one_iff h).1 (hc.1 e))), if_neg hs]
    have hf := Bool.eq_false_iff.2 hs
    exact gather_col x _ r c _ (by rw [wrapped_eq dl c hf]; exact toInt_col h hf)

/-- The reference's result, of an array and two index rows. -/
def value (x : S16384x2080.Idx → Ideal .f32) (dl ds : S1x2080.Idx → BitVec 32) : FVec Ideal S16384x2080 .f32 :=
  Host.divf (subf x (masked 0x00000000#32 x dl)) (masked 0x3F800000#32 x ds)

/-- Under the precondition the reference's result is the kernel's, element by element. -/
theorem value_eq (x : S16384x2080.Idx → Ideal .f32) (dl ds : S1x2080.Idx → BitVec 32)
    (hl : ∀ j, InRange (dl j)) (hs : ∀ j, InRange (ds j)) : value x dl ds = cell (n := 16384) x dl ds := by
  funext j
  obtain ⟨r, c, rfl⟩ : ∃ (r : Fin 16384) (c : Fin 2080), j = ix2 r c := ⟨j 0, j 1, eq_ix2 j⟩
  show FloatOps.divf (FloatOps.subf (x (ix2 r c)) (masked 0x00000000#32 x dl (ix2 r c)))
    (masked 0x3F800000#32 x ds (ix2 r c)) = _
  rw [masked_apply _ _ _ _ _ (hl _), masked_apply _ _ _ _ _ (hs _)]
  rfl

/-- The reference runs to its result, its arguments unchanged and every counter zero again. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      fun r => (∀ c : Dev nD,
        r.2.mem ((c.tc : Thread nD τ).loc main_v25) = value (m ((c.tc : Thread nD τ).loc main_arg0))
          (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run Cert.ReferenceIdeal.defs _ _).mono
    (fun r h => ⟨h, Idealize.ShloMosaic.sem_eq_zero_of_no_sems (by decide) r.2⟩) (Value.run (F := Ideal) m ρ)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_dims_in_range
public import proofs.«01_k».proof.Proof.Pre
public import proofs.«01_k».proof.Proof.Ref
public import Idealize.ShloMosaic.Adequacy
public import Idealize.ShloMosaic.Init

@[expose] public section

noncomputable section

namespace Cert.Proof

open Idealize.ShloMosaic Idealize.SL.Sem

/-- The kernel runs, ends with its arguments unchanged and every counter zero again. -/
theorem frame_kernel : Cert.quiescent_Kernel := fun m g hpre =>
  (θ_run Cert.Kernel.defs _ _).mono (fun _ h => ⟨fun c => ⟨(h.1 c).1, (h.1 c).2.1, (h.1 c).2.2.1⟩, h.2⟩)
    (Cert.Proof.Kernel.run_main m g (Pre.ok_float m hpre))

/-- The idealized kernel runs, ends with its arguments unchanged and every counter zero again. -/
theorem frame_kernelIdeal : Cert.quiescent_KernelIdeal := fun m g hpre =>
  (θ_run Cert.KernelIdeal.defs _ _).mono (fun _ h => ⟨fun c => ⟨(h.1 c).1, (h.1 c).2.1, (h.1 c).2.2.1⟩, h.2⟩)
    (Cert.Proof.KernelIdeal.run_main m g (Pre.ok_ideal m hpre))

/-- The reference runs, ends with its arguments unchanged and every counter zero. -/
theorem frame_reference : Cert.quiescent_ReferenceIdeal := fun m g _ =>
  (θ_run Cert.ReferenceIdeal.defs _ _).mono (fun _ h => ⟨fun c => (h.1 c).2, h.2⟩) (Ref.run m g)

/-- The idealized kernel and the reference end with equal results. -/
theorem algebraic : Cert.algebraic_KernelIdeal_ReferenceIdeal := fun m g m' g' hpre hargs =>
  have hok := Pre.ok_ideal m hpre
  ⟨fun c => Cert.Proof.KernelIdeal.OUT m c,
    (θ_run Cert.KernelIdeal.defs _ _).mono
      (fun _ h c => ⟨(h.1 c).2.2.2, (h.1 c).1, (h.1 c).2.1, (h.1 c).2.2.1⟩) (Cert.Proof.KernelIdeal.run_main m g hok),
    (θ_run Cert.ReferenceIdeal.defs _ _).mono
      (fun r h c => ⟨by
        rw [(h.1 c).1, (hargs c).1, (hargs c).2.1, (hargs c).2.2]
        exact Ref.value_eq _ _ _ (fun j => (hok c j).1) (fun j => (hok c j).2), (h.1 c).2⟩) (Ref.run m' g')⟩

/-- Everything the certificate claims. -/
theorem claim : Cert.Claim := ⟨Cert.Kernel.Gen.facts, Cert.KernelIdeal.Gen.facts, Cert.ReferenceIdeal.Gen.facts,
  Cert.Pre_dims_in_range.Gen.facts, frame_kernel, frame_kernelIdeal, frame_reference, fun m g _ => frame_reference m g trivial,
  trivial, algebraic⟩

end Cert.Proof

end
